-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_win_keys [hPre_win_keys : Cert.Pre_win_keys.Facts] (m : (ℓ : Loc Cert.WinIdeal.nD Cert.WinIdeal.τ Cert.WinIdeal.sig) → Buf (Elt Ideal) ℓ) : Prop :=
  ∀ c : Dev Cert.WinIdeal.nD,
    (Cert.Pre_win_keys.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1))) = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_win_keys [hPre_win_keys : Cert.Pre_win_keys.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_win_keys.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1))) = (fun _ => 1#1)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinIdeal_pre_win_keys [hWinIdeal : Cert.WinIdeal.Facts] [hPre_win_keys : Cert.Pre_win_keys.Facts] : Prop :=
  ∀ (m : (ℓ : Loc Cert.WinIdeal.nD Cert.WinIdeal.τ Cert.WinIdeal.sig) → Buf (Elt Ideal) ℓ) (g : Dev Cert.WinIdeal.nD → PrngReg), Pre_WinIdeal_win_keys m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_WinRefIdeal_pre_win_keys [hWinRefIdeal : Cert.WinRefIdeal.Facts] [hPre_win_keys : Cert.Pre_win_keys.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_win_keys m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v10_0)) (v1 : (c : Dev Cert.ProjIdeal.nD) → Buf (Elt Ideal) ((c.tc : Thread Cert.ProjIdeal.nD Cert.ProjIdeal.τ).loc Cert.ProjIdeal.main_v10_1)) (v2 : (c : Dev Cert.ProjIdeal.nD) → Buf (Elt Ideal) ((c.tc : Thread Cert.ProjIdeal.nD Cert.ProjIdeal.τ).loc Cert.ProjIdeal.main_v10_2)) (v3 : (c : Dev Cert.ProjIdeal.nD) → Buf (Elt Ideal) ((c.tc : Thread Cert.ProjIdeal.nD Cert.ProjIdeal.τ).loc Cert.ProjIdeal.main_v10_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10_0) = v0 c
          ∧ r.2.mem ((c.tc : Thread Cert.ProjIdeal.nD Cert.ProjIdeal.τ).loc Cert.ProjIdeal.main_v10_1) = v1 c
          ∧ r.2.mem ((c.tc : Thread Cert.ProjIdeal.nD Cert.ProjIdeal.τ).loc Cert.ProjIdeal.main_v10_2) = v2 c
          ∧ r.2.mem ((c.tc : Thread Cert.ProjIdeal.nD Cert.ProjIdeal.τ).loc Cert.ProjIdeal.main_v10_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_v19) = v1 c
          ∧ r.2.mem ((c.tc : Thread Cert.ProjRefIdeal.nD Cert.ProjRefIdeal.τ).loc Cert.ProjRefIdeal.main_v21) = v2 c
          ∧ r.2.mem ((c.tc : Thread Cert.ProjRefIdeal.nD Cert.ProjRefIdeal.τ).loc Cert.ProjRefIdeal.main_v22) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v14) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v33)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v33) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v306) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13))

def preserves_Win_WinIdeal : Prop :=
  IdealRules.named_const.Statement Cert.WinIdeal.κ "slope4" .f32 0x3DB8AA3B#32 (((1 / 16) * (Real.log 2)⁻¹ : ℝ) : EReal)
  ∧ IdealRules.named_const.Statement Cert.WinIdeal.κ "slope3" .f32 0x3E38AA3B#32 (((1 / 8) * (Real.log 2)⁻¹ : ℝ) : EReal)
  ∧ IdealRules.named_const.Statement Cert.WinIdeal.κ "slope2" .f32 0x3EB8AA3B#32 (((1 / 4) * (Real.log 2)⁻¹ : ℝ) : EReal)
  ∧ IdealRules.named_const.Statement Cert.WinIdeal.κ "slope1" .f32 0x3F38AA3B#32 (((1 / 2) * (Real.log 2)⁻¹ : ℝ) : EReal)
  ∧ IdealRules.named_const.Statement Cert.WinIdeal.κ "minus1" .f32 0xBF38AA3B#32 ((-((1 / 2) * (Real.log 2)⁻¹) : ℝ) : EReal)
  ∧ IdealRules.named_const.Statement Cert.WinIdeal.κ "minus2" .f32 0xBEB8AA3B#32 ((-((1 / 4) * (Real.log 2)⁻¹) : ℝ) : EReal)
  ∧ IdealRules.named_const.Statement Cert.WinIdeal.κ "minus3" .f32 0xBE38AA3B#32 ((-((1 / 8) * (Real.log 2)⁻¹) : ℝ) : EReal)
  ∧ IdealRules.named_const.Statement Cert.WinIdeal.κ "minus4" .f32 0xBDB8AA3B#32 ((-((1 / 16) * (Real.log 2)⁻¹) : ℝ) : EReal)
  ∧ IdealRules.named_const.Statement Cert.WinIdeal.κ "slope8" .f32 0x3BB8AA3B#32 (((1 / 256) * (Real.log 2)⁻¹ : ℝ) : EReal)
  ∧ IdealRules.named_const.Statement Cert.WinIdeal.κ "slope7" .f32 0x3C38AA3B#32 (((1 / 128) * (Real.log 2)⁻¹ : ℝ) : EReal)
  ∧ IdealRules.named_const.Statement Cert.WinIdeal.κ "slope6" .f32 0x3CB8AA3B#32 (((1 / 64) * (Real.log 2)⁻¹ : ℝ) : EReal)
  ∧ IdealRules.named_const.Statement Cert.WinIdeal.κ "slope5" .f32 0x3D38AA3B#32 (((1 / 32) * (Real.log 2)⁻¹ : ℝ) : EReal)
  ∧ IdealRules.named_const.Statement Cert.WinIdeal.κ "minus5" .f32 0xBD38AA3B#32 ((-((1 / 32) * (Real.log 2)⁻¹) : ℝ) : EReal)
  ∧ IdealRules.named_const.Statement Cert.WinIdeal.κ "minus6" .f32 0xBCB8AA3B#32 ((-((1 / 64) * (Real.log 2)⁻¹) : ℝ) : EReal)
  ∧ IdealRules.named_const.Statement Cert.WinIdeal.κ "minus7" .f32 0xBC38AA3B#32 ((-((1 / 128) * (Real.log 2)⁻¹) : ℝ) : EReal)
  ∧ IdealRules.named_const.Statement Cert.WinIdeal.κ "minus8" .f32 0xBBB8AA3B#32 ((-((1 / 256) * (Real.log 2)⁻¹) : ℝ) : EReal)
  ∧ IdealRules.named_const.Statement Cert.WinIdeal.κ "mask" .f32 0xF149F2CA#32 ⊥

def algebraic_WinIdeal_WinRefIdeal_pre_win_keys [hWinIdeal : Cert.WinIdeal.Facts] [hWinRefIdeal : Cert.WinRefIdeal.Facts] [hPre_win_keys : Cert.Pre_win_keys.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_win_keys m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v52) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def Claim : Prop :=
  ∃ (hProj : Cert.Proj.Facts) (hProjIdeal : Cert.ProjIdeal.Facts) (hProjRefIdeal : Cert.ProjRefIdeal.Facts) (hFinal : Cert.Final.Facts) (hFinalIdeal : Cert.FinalIdeal.Facts) (hFinalRefIdeal : Cert.FinalRefIdeal.Facts) (hMix : Cert.Mix.Facts) (hMixIdeal : Cert.MixIdeal.Facts) (hMixRefIdeal : Cert.MixRefIdeal.Facts) (hWin : Cert.Win.Facts) (hWinIdeal : Cert.WinIdeal.Facts) (hWinRefIdeal : Cert.WinRefIdeal.Facts) (hPre_win_keys : Cert.Pre_win_keys.Facts),
    quiescent_Proj (hProj := hProj)
    ∧ quiescent_ProjIdeal (hProjIdeal := hProjIdeal)
    ∧ quiescent_ProjRefIdeal (hProjRefIdeal := hProjRefIdeal)
    ∧ quiescent_Final (hFinal := hFinal)
    ∧ quiescent_FinalIdeal (hFinalIdeal := hFinalIdeal)
    ∧ quiescent_FinalRefIdeal (hFinalRefIdeal := hFinalRefIdeal)
    ∧ quiescent_Mix (hMix := hMix)
    ∧ quiescent_MixIdeal (hMixIdeal := hMixIdeal)
    ∧ quiescent_MixRefIdeal (hMixRefIdeal := hMixRefIdeal)
    ∧ quiescent_Win (hWin := hWin)
    ∧ quiescent_WinIdeal (hWinIdeal := hWinIdeal)
    ∧ quiescent_WinIdeal_pre_win_keys (hWinIdeal := hWinIdeal) (hPre_win_keys := hPre_win_keys)
    ∧ quiescent_WinRefIdeal (hWinRefIdeal := hWinRefIdeal)
    ∧ quiescent_WinRefIdeal_pre_win_keys (hWinRefIdeal := hWinRefIdeal) (hPre_win_keys := hPre_win_keys)
    ∧ preserves_Proj_ProjIdeal
    ∧ algebraic_ProjIdeal_ProjRefIdeal (hProjIdeal := hProjIdeal) (hProjRefIdeal := hProjRefIdeal)
    ∧ preserves_Final_FinalIdeal
    ∧ algebraic_FinalIdeal_FinalRefIdeal (hFinalIdeal := hFinalIdeal) (hFinalRefIdeal := hFinalRefIdeal)
    ∧ preserves_Mix_MixIdeal
    ∧ algebraic_MixIdeal_MixRefIdeal (hMixIdeal := hMixIdeal) (hMixRefIdeal := hMixRefIdeal)
    ∧ preserves_Win_WinIdeal
    ∧ algebraic_WinIdeal_WinRefIdeal_pre_win_keys (hWinIdeal := hWinIdeal) (hWinRefIdeal := hWinRefIdeal) (hPre_win_keys := hPre_win_keys)
-- ==== Pre_win_keys.lean ====
abbrev S16384x1280 : Shape := ⟨2, ![16384, 1280]⟩
abbrev S4x2x4096x128 : Shape := ⟨4, ![4, 2, 4096, 128]⟩
abbrev S16384x512 : Shape := ⟨2, ![16384, 512]⟩
abbrev S4x4096x2x4x64 : Shape := ⟨5, ![4, 4096, 2, 4, 64]⟩
abbrev S4x4x2x4096x64 : Shape := ⟨5, ![4, 4, 2, 4096, 64]⟩
abbrev S4x2x4096x64 : Shape := ⟨4, ![4, 2, 4096, 64]⟩
abbrev S_ : Shape := ⟨0, ![]⟩
abbrev S4x2x4096x1 : Shape := ⟨4, ![4, 2, 4096, 1]⟩
abbrev S1x4x2x4096x64 : Shape := ⟨5, ![1, 4, 2, 4096, 64]⟩

class Facts : Prop where
  slices_S16384x1280_S16384x512_0_0 : S16384x1280.Slices ![0, 0] S16384x512
  shapeCasts_S16384x512_S4x4096x2x4x64 : S16384x512.ShapeCasts S4x4096x2x4x64
  transposes_S4x4096x2x4x64_S4x4x2x4096x64_3_0_2_1_4 : S4x4096x2x4x64.Transposes [3, 0, 2, 1, 4] S4x4x2x4096x64
  bitsLt_bf16_f32 : FTy.bits .bf16 < FTy.bits .f32
  bcast_S_S4x2x4096x64 : S_.BroadcastsInDim S4x2x4096x64 (![] : Fin 0 → Fin S4x2x4096x64.rank)
  slices_S4x2x4096x128_S4x2x4096x64_0_0_0_0 : S4x2x4096x128.Slices ![0, 0, 0, 0] S4x2x4096x64
  slices_S4x2x4096x128_S4x2x4096x1_0_0_0_64 : S4x2x4096x128.Slices ![0, 0, 0, 64] S4x2x4096x1
  bcast_S_S4x2x4096x1 : S_.BroadcastsInDim S4x2x4096x1 (![] : Fin 0 → Fin S4x2x4096x1.rank)
  bcast_S4x2x4096x1_S4x2x4096x64_0_1_2_3 : S4x2x4096x1.BroadcastsInDim S4x2x4096x64 (![0, 1, 2, 3] : Fin 4 → Fin S4x2x4096x64.rank)
  slices_S4x2x4096x128_S4x2x4096x1_0_0_0_65 : S4x2x4096x128.Slices ![0, 0, 0, 65] S4x2x4096x1
  slices_S4x4x2x4096x64_S1x4x2x4096x64_0_0_0_0_0 : S4x4x2x4096x64.Slices ![0, 0, 0, 0, 0] S1x4x2x4096x64
  shapeCasts_S1x4x2x4096x64_S4x2x4096x64 : S1x4x2x4096x64.ShapeCasts S4x2x4096x64
  slices_S4x4x2x4096x64_S1x4x2x4096x64_1_0_0_0_0 : S4x4x2x4096x64.Slices ![1, 0, 0, 0, 0] S1x4x2x4096x64
  slices_S4x4x2x4096x64_S1x4x2x4096x64_2_0_0_0_0 : S4x4x2x4096x64.Slices ![2, 0, 0, 0, 0] S1x4x2x4096x64
  slices_S4x4x2x4096x64_S1x4x2x4096x64_3_0_0_0_0 : S4x4x2x4096x64.Slices ![3, 0, 0, 0, 0] S1x4x2x4096x64

variable [Facts]

def fn_part2 {F : FTy → Type} [FloatOps F] (main_v38 : IVec S4x2x4096x64 1) (main_v41 : FVec F S4x2x4096x64 .f32) : IVec S4x2x4096x64 1 :=
  let main_cst_4 : FVec F S_ .f32 := constant S_ .f32 0x7F800000#32
  let main_v42 : FVec F S4x2x4096x64 .f32 := broadcastInDim S4x2x4096x64 ![] bcast_S_S4x2x4096x64 main_cst_4
  let main_v43 : IVec S4x2x4096x64 1 := cmpf .olt main_v41 main_v42
  let main_v44 : IVec S4x2x4096x64 1 := andi main_v38 main_v43
  main_v44

def fn_part1 {F : FTy → Type} [FloatOps F] (main_v2 : FVec F S4x4x2x4096x64 .f32) (main_v20 : IVec S4x2x4096x64 1) : IVec S4x2x4096x64 1 :=
  let main_v21 : FVec F S1x4x2x4096x64 .f32 := (extractStridedSlice S1x4x2x4096x64 ![0, 0, 0, 0, 0] · slices_S4x4x2x4096x64_S1x4x2x4096x64_0_0_0_0_0) main_v2
  let main_v22 : FVec F S4x2x4096x64 .f32 := shapeCast S4x2x4096x64 main_v21 shapeCasts_S1x4x2x4096x64_S4x2x4096x64
  let main_v23 : FVec F S4x2x4096x64 .f32 := Host.absf main_v22
  let main_cst_1 : FVec F S_ .f32 := constant S_ .f32 0x7F800000#32
  let main_v24 : FVec F S4x2x4096x64 .f32 := broadcastInDim S4x2x4096x64 ![] bcast_S_S4x2x4096x64 main_cst_1
  let main_v25 : IVec S4x2x4096x64 1 := cmpf .olt main_v23 main_v24
  let main_v26 : IVec S4x2x4096x64 1 := andi main_v20 main_v25
  let main_v27 : FVec F S1x4x2x4096x64 .f32 := (extractStridedSlice S1x4x2x4096x64 ![1, 0, 0, 0, 0] · slices_S4x4x2x4096x64_S1x4x2x4096x64_1_0_0_0_0) main_v2
  let main_v28 : FVec F S4x2x4096x64 .f32 := shapeCast S4x2x4096x64 main_v27 shapeCasts_S1x4x2x4096x64_S4x2x4096x64
  let main_v29 : FVec F S4x2x4096x64 .f32 := Host.absf main_v28
  let main_cst_2 : FVec F S_ .f32 := constant S_ .f32 0x7F800000#32
  let main_v30 : FVec F S4x2x4096x64 .f32 := broadcastInDim S4x2x4096x64 ![] bcast_S_S4x2x4096x64 main_cst_2
  let main_v31 : IVec S4x2x4096x64 1 := cmpf .olt main_v29 main_v30
  let main_v32 : IVec S4x2x4096x64 1 := andi main_v26 main_v31
  let main_v33 : FVec F S1x4x2x4096x64 .f32 := (extractStridedSlice S1x4x2x4096x64 ![2, 0, 0, 0, 0] · slices_S4x4x2x4096x64_S1x4x2x4096x64_2_0_0_0_0) main_v2
  let main_v34 : FVec F S4x2x4096x64 .f32 := shapeCast S4x2x4096x64 main_v33 shapeCasts_S1x4x2x4096x64_S4x2x4096x64
  let main_v35 : FVec F S4x2x4096x64 .f32 := Host.absf main_v34
  let main_cst_3 : FVec F S_ .f32 := constant S_ .f32 0x7F800000#32
  let main_v36 : FVec F S4x2x4096x64 .f32 := broadcastInDim S4x2x4096x64 ![] bcast_S_S4x2x4096x64 main_cst_3
  let main_v37 : IVec S4x2x4096x64 1 := cmpf .olt main_v35 main_v36
  let main_v38 : IVec S4x2x4096x64 1 := andi main_v32 main_v37
  let main_v39 : FVec F S1x4x2x4096x64 .f32 := (extractStridedSlice S1x4x2x4096x64 ![3, 0, 0, 0, 0] · slices_S4x4x2x4096x64_S1x4x2x4096x64_3_0_0_0_0) main_v2
  let main_v40 : FVec F S4x2x4096x64 .f32 := shapeCast S4x2x4096x64 main_v39 shapeCasts_S1x4x2x4096x64_S4x2x4096x64
  let main_v41 : FVec F S4x2x4096x64 .f32 := Host.absf main_v40
  fn_part2 (F := F) main_v38 main_v41

def fn {F : FTy → Type} [FloatOps F] (main_arg0 : FVec F S16384x1280 .f32) (main_arg1 : FVec F S4x2x4096x128 .bf16) : IVec S4x2x4096x64 1 :=
  let main_v0 : FVec F S16384x512 .f32 := (extractStridedSlice S16384x512 ![0, 0] · slices_S16384x1280_S16384x512_0_0) main_arg0
  let main_v1 : FVec F S4x4096x2x4x64 .f32 := shapeCast S4x4096x2x4x64 main_v0 shapeCasts_S16384x512_S4x4096x2x4x64
  let main_v2 : FVec F S4x4x2x4096x64 .f32 := (transpose S4x4x2x4096x64 [3, 0, 2, 1, 4] · transposes_S4x4096x2x4x64_S4x4x2x4096x64_3_0_2_1_4) main_v1
  let main_v3 : FVec F S4x2x4096x128 .f32 := (extf .f32 · bitsLt_bf16_f32) main_arg1
  let main_v4 : IVec S4x2x4096x64 32 := iotaInDim S4x2x4096x64 32 2
  let main_c : IVec S_ 32 := constantI S_ 32 256#32
  let main_v5 : IVec S4x2x4096x64 32 := broadcastInDim S4x2x4096x64 ![] bcast_S_S4x2x4096x64 main_c
  let main_v6 : IVec S4x2x4096x64 32 := Host.remsi main_v4 main_v5
  let main_v7 : FVec F S4x2x4096x64 .f32 := sitofp .f32 main_v6
  let main_v8 : FVec F S4x2x4096x64 .f32 := (extractStridedSlice S4x2x4096x64 ![0, 0, 0, 0] · slices_S4x2x4096x128_S4x2x4096x64_0_0_0_0) main_v3
  let main_v9 : FVec F S4x2x4096x64 .f32 := Host.absf main_v8
  let main_cst : FVec F S_ .f32 := constant S_ .f32 0x7F800000#32
  let main_v10 : FVec F S4x2x4096x64 .f32 := broadcastInDim S4x2x4096x64 ![] bcast_S_S4x2x4096x64 main_cst
  let main_v11 : IVec S4x2x4096x64 1 := cmpf .olt main_v9 main_v10
  let main_v12 : FVec F S4x2x4096x1 .f32 := (extractStridedSlice S4x2x4096x1 ![0, 0, 0, 64] · slices_S4x2x4096x128_S4x2x4096x1_0_0_0_64) main_v3
  let main_cst_0 : FVec F S_ .f32 := constant S_ .f32 0x3F800000#32
  let main_v13 : FVec F S4x2x4096x1 .f32 := broadcastInDim S4x2x4096x1 ![] bcast_S_S4x2x4096x1 main_cst_0
  let main_v14 : IVec S4x2x4096x1 1 := cmpf .oeq main_v12 main_v13
  let main_v15 : IVec S4x2x4096x64 1 := broadcastInDim S4x2x4096x64 ![0, 1, 2, 3] bcast_S4x2x4096x1_S4x2x4096x64_0_1_2_3 main_v14
  let main_v16 : IVec S4x2x4096x64 1 := andi main_v11 main_v15
  let main_v17 : FVec F S4x2x4096x1 .f32 := (extractStridedSlice S4x2x4096x1 ![0, 0, 0, 65] · slices_S4x2x4096x128_S4x2x4096x1_0_0_0_65) main_v3
  let main_v18 : FVec F S4x2x4096x64 .f32 := broadcastInDim S4x2x4096x64 ![0, 1, 2, 3] bcast_S4x2x4096x1_S4x2x4096x64_0_1_2_3 main_v17
  let main_v19 : IVec S4x2x4096x64 1 := cmpf .oeq main_v18 main_v7
  let main_v20 : IVec S4x2x4096x64 1 := andi main_v16 main_v19
  fn_part1 (F := F) main_v2 main_v20
-- ==== Proj.lean ====
abbrev S4x4096x1024 : Shape := ⟨3, ![4, 4096, 1024]⟩
abbrev S1x1024 : Shape := ⟨2, ![1, 1024]⟩
abbrev S1x1024x4376 : Shape := ⟨3, ![1, 1024, 4376]⟩
abbrev S16384x1024 : Shape := ⟨2, ![16384, 1024]⟩
abbrev S1024x4376 : Shape := ⟨2, ![1024, 4376]⟩
abbrev S1024x1304 : Shape := ⟨2, ![1024, 1304]⟩
abbrev S_ : Shape := ⟨0, ![]⟩
abbrev S1024x104 : Shape := ⟨2, ![1024, 104]⟩
abbrev S1024x3072 : Shape := ⟨2, ![1024, 3072]⟩
abbrev S1024x4480 : Shape := ⟨2, ![1024, 4480]⟩
abbrev S1024 : Shape := ⟨1, ![1024]⟩
abbrev S16384x1280 : Shape := ⟨2, ![16384, 1280]⟩
abbrev S16384x128 : Shape := ⟨2, ![16384, 128]⟩
abbrev S16384x2048 : Shape := ⟨2, ![16384, 2048]⟩
abbrev S256x1024 : Shape := ⟨2, ![256, 1024]⟩
abbrev S256x1280 : Shape := ⟨2, ![256, 1280]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S1024x1280 : Shape := ⟨2, ![1024, 1280]⟩
abbrev S1024x128 : Shape := ⟨2, ![1024, 128]⟩
abbrev S1024x1024 : Shape := ⟨2, ![1024, 1024]⟩
abbrev S1024x2048 : Shape := ⟨2, ![1024, 2048]⟩

abbrev nBuf : Space → Nat
  | .hbm => 18
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4376, .f32⟩
  | .hbm, ⟨3, _⟩ => ⟨S16384x1024, .f32⟩
  | .hbm, ⟨4, _⟩ => ⟨S1024x4376, .f32⟩
  | .hbm, ⟨5, _⟩ => ⟨S1024x1304, .f32⟩
  | .hbm, ⟨6, _⟩ => ⟨S_, .f32⟩
  | .hbm, ⟨7, _⟩ => ⟨S1024x104, .f32⟩
  | .hbm, ⟨8, _⟩ => ⟨S1024x4376, .f32⟩
  | .hbm, ⟨9, _⟩ => ⟨S1024x3072, .f32⟩
  | .hbm, ⟨10, _⟩ => ⟨S1024x4480, .f32⟩
  | .hbm, ⟨11, _⟩ => ⟨S1024x4480, .bf16⟩
  | .hbm, ⟨12, _⟩ => ⟨S1024, .f32⟩
  | .hbm, ⟨13, _⟩ => ⟨S1x1024, .f32⟩
  | .hbm, ⟨14, _⟩ => ⟨S16384x1280, .f32⟩
  | .hbm, ⟨15, _⟩ => ⟨S16384x128, .f32⟩
  | .hbm, ⟨16, _⟩ => ⟨S16384x1024, .f32⟩
  | .hbm, ⟨17, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4480, .bf16⟩
  | .local _ .vmem, ⟨4, _⟩ => ⟨S256x1280, .f32⟩
  | .local _ .vmem, ⟨5, _⟩ => ⟨S256x1280, .f32⟩
  | .local _ .vmem, ⟨6, _⟩ => ⟨S256x128, .f32⟩
  | .local _ .vmem, ⟨7, _⟩ => ⟨S256x128, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S4x4096x1024 : Shape := ⟨3, ![4, 4096, 1024]⟩
abbrev S1x1024 : Shape := ⟨2, ![1, 1024]⟩
abbrev S1x1024x4376 : Shape := ⟨3, ![1, 1024, 4376]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4376 : Shape := ⟨2, ![1024, 4376]⟩
abbrev S4x4096x4376 : Shape := ⟨3, ![4, 4096, 4376]⟩
abbrev S16384x4376 : Shape := ⟨2, ![16384, 4376]⟩
abbrev S16384x24 : Shape := ⟨2, ![16384, 24]⟩
abbrev S16384x104 : Shape := ⟨2, ![16384, 104]⟩
abbrev S16384x128 : Shape := ⟨2, ![16384, 128]⟩
abbrev S16384x1280 : Shape := ⟨2, ![16384, 1280]⟩
abbrev S16384x1024 : Shape := ⟨2, ![16384, 1024]⟩
abbrev S16384x2048 : Shape := ⟨2, ![16384, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4376, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x4376, .f32⟩
  | .hbm, ⟨21, _⟩ => ⟨S4x4096x4376, .f32⟩
  | .hbm, ⟨22, _⟩ => ⟨S16384x4376, .f32⟩
  | .hbm, ⟨23, _⟩ => ⟨S16384x24, .f32⟩
  | .hbm, ⟨24, _⟩ => ⟨S_, .f32⟩
  | .hbm, ⟨25, _⟩ => ⟨S16384x104, .f32⟩
  | .hbm, ⟨26, _⟩ => ⟨S16384x128, .f32⟩
  | .hbm, ⟨27, _⟩ => ⟨S16384x1280, .f32⟩
  | .hbm, ⟨28, _⟩ => ⟨S16384x1024, .f32⟩
  | .hbm, ⟨29, _⟩ => ⟨S16384x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Final.lean ====
abbrev S16384x1024 : Shape := ⟨2, ![16384, 1024]⟩
abbrev S1024x16384 : Shape := ⟨2, ![1024, 16384]⟩
abbrev S1024 : Shape := ⟨1, ![1024]⟩
abbrev S1x1024 : Shape := ⟨2, ![1, 1024]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalRefIdeal.lean ====
abbrev S16384x1024 : Shape := ⟨2, ![16384, 1024]⟩
abbrev S1024x16384 : Shape := ⟨2, ![1024, 16384]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Mix.lean ====
abbrev S16384x512 : Shape := ⟨2, ![16384, 512]⟩
abbrev S16384x128 : Shape := ⟨2, ![16384, 128]⟩
abbrev S16384x1024 : Shape := ⟨2, ![16384, 1024]⟩
abbrev S16384x2048 : Shape := ⟨2, ![16384, 2048]⟩
abbrev S1x512x1024 : Shape := ⟨3, ![1, 512, 1024]⟩
abbrev S1x31x1x512 : Shape := ⟨4, ![1, 31, 1, 512]⟩
abbrev S1x512 : Shape := ⟨2, ![1, 512]⟩
abbrev S1x1024x1024 : Shape := ⟨3, ![1, 1024, 1024]⟩
abbrev S128 : Shape := ⟨1, ![128]⟩
abbrev S128x1 : Shape := ⟨2, ![128, 1]⟩
abbrev S1536 : Shape := ⟨1, ![1536]⟩
abbrev S1x1536 : Shape := ⟨2, ![1, 1536]⟩
abbrev S_ : Shape := ⟨0, ![]⟩
abbrev S128x1536 : Shape := ⟨2, ![128, 1536]⟩
abbrev S512x1024 : Shape := ⟨2, ![512, 1024]⟩
abbrev S31x1x512 : Shape := ⟨3, ![31, 1, 512]⟩
abbrev S31x512 : Shape := ⟨2, ![31, 512]⟩
abbrev S512 : Shape := ⟨1, ![512]⟩
abbrev S1024x1024 : Shape := ⟨2, ![1024, 1024]⟩
abbrev S256x512 : Shape := ⟨2, ![256, 512]⟩
abbrev S256x128 : Shape := ⟨2, ![256, 128]⟩
abbrev S256x1024 : Shape := ⟨2, ![256, 1024]⟩
abbrev S32x1024 : Shape := ⟨2, ![32, 1024]⟩
abbrev S256x2048 : Shape := ⟨2, ![256, 2048]⟩
abbrev S8x288x512 : Shape := ⟨3, ![8, 288, 512]⟩
abbrev S256x1536 : Shape := ⟨2, ![256, 1536]⟩
abbrev S32x512 : Shape := ⟨2, ![32, 512]⟩
abbrev S1x32x512 : Shape := ⟨3, ![1, 32, 512]⟩
abbrev S1x256x512 : Shape := ⟨3, ![1, 256, 512]⟩
abbrev S1x280x512 : Shape := ⟨3, ![1, 280, 512]⟩
abbrev S280x512 : Shape := ⟨2, ![280, 512]⟩
abbrev S256 : Shape := ⟨1, ![256]⟩
abbrev S256x1 : Shape := ⟨2, ![256, 1]⟩

abbrev nBuf : Space → Nat
  | .hbm => 105
  | .vmem => 27
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x128, .f32⟩
  | .hbm, ⟨4, _⟩ => ⟨S16384x1024, .f32⟩
  | .hbm, ⟨5, _⟩ => ⟨S16384x2048, .f32⟩
  | .hbm, ⟨6, _⟩ => ⟨S16384x1024, .f32⟩
  | .hbm, ⟨7, _⟩ => ⟨S1x512x1024, .f32⟩
  | .hbm, ⟨8, _⟩ => ⟨S1x31x1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512x1024, .f32⟩
  | .hbm, ⟨13, _⟩ => ⟨S1x1024x1024, .f32⟩
  | .hbm, ⟨14, _⟩ => ⟨S128, .i32⟩
  | .hbm, ⟨15, _⟩ => ⟨S128x1, .i32⟩
  | .hbm, ⟨16, _⟩ => ⟨S1536, .i32⟩
  | .hbm, ⟨17, _⟩ => ⟨S1x1536, .i32⟩
  | .hbm, ⟨18, _⟩ => ⟨S_, .i32⟩
  | .hbm, ⟨19, _⟩ => ⟨S128x1, .i32⟩
  | .hbm, ⟨20, _⟩ => ⟨S128x1, .i1⟩
  | .hbm, ⟨21, _⟩ => ⟨S_, .i32⟩
  | .hbm, ⟨22, _⟩ => ⟨S_, .i32⟩
  | .hbm, ⟨23, _⟩ => ⟨S1x1536, .i32⟩
  | .hbm, ⟨24, _⟩ => ⟨S1x1536, .i32⟩
  | .hbm, ⟨25, _⟩ => ⟨S1x1536, .i32⟩
  | .hbm, ⟨26, _⟩ => ⟨S_, .i32⟩
  | .hbm, ⟨27, _⟩ => ⟨S1x1536, .i32⟩
  | .hbm, ⟨28, _⟩ => ⟨S1x1536, .i1⟩
  | .hbm, ⟨29, _⟩ => ⟨S1x1536, .i32⟩
  | .hbm, ⟨30, _⟩ => ⟨S1x1536, .i32⟩
  | .hbm, ⟨31, _⟩ => ⟨S_, .i32⟩
  | .hbm, ⟨32, _⟩ => ⟨S1x1536, .i32⟩
  | .hbm, ⟨33, _⟩ => ⟨S1x1536, .i1⟩
  | .hbm, ⟨34, _⟩ => ⟨S1x1536, .i1⟩
  | .hbm, ⟨35, _⟩ => ⟨S_, .i32⟩
  | .hbm, ⟨36, _⟩ => ⟨S1x1536, .i32⟩
  | .hbm, ⟨37, _⟩ => ⟨S1x1536, .i32⟩
  | .hbm, ⟨38, _⟩ => ⟨S1x1536, .i32⟩
  | .hbm, ⟨39, _⟩ => ⟨S_, .i32⟩
  | .hbm, ⟨40, _⟩ => ⟨S1x1536, .i32⟩
  | .hbm, ⟨41, _⟩ => ⟨S1x1536, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S1x1536, .i32⟩
  | .hbm, ⟨49, _⟩ => ⟨S1x1536, .i32⟩
  | .hbm, ⟨50, _⟩ => ⟨S_, .i32⟩
  | .hbm, ⟨51, _⟩ => ⟨S1x1536, .i32⟩
  | .hbm, ⟨52, _⟩ => ⟨S1x1536, .i1⟩
  | .hbm, ⟨53, _⟩ => ⟨S_, .i32⟩
  | .hbm, ⟨54, _⟩ => ⟨S1x1536, .i32⟩
  | .hbm, ⟨55, _⟩ => ⟨S1x1536, .i1⟩
  | .hbm, ⟨56, _⟩ => ⟨S_, .i32⟩
  | .hbm, ⟨57, _⟩ => ⟨S_, .i1⟩
  | .hbm, ⟨58, _⟩ => ⟨S1x1536, .i1⟩
  | .hbm, ⟨59, _⟩ => ⟨S1x1536, .i1⟩
  | .hbm, ⟨60, _⟩ => ⟨S1x1536, .i1⟩
  | .hbm, ⟨61, _⟩ => ⟨S1x1536, .i32⟩
  | .hbm, ⟨62, _⟩ => ⟨S1x1536, .i32⟩
  | .hbm, ⟨63, _⟩ => ⟨S1x1536, .i32⟩
  | .hbm, ⟨64, _⟩ => ⟨S_, .i32⟩
  | .hbm, ⟨65, _⟩ => ⟨S_, .i32⟩
  | .hbm, ⟨66, _⟩ => ⟨S1x1536, .i32⟩
  | .hbm, ⟨67, _⟩ => ⟨S1x1536, .i32⟩
  | .hbm, ⟨68, _⟩ => ⟨S1x1536, .i32⟩
  | .hbm, ⟨69, _⟩ => ⟨S_, .i32⟩
  | .hbm, ⟨70, _⟩ => ⟨S1x1536, .i32⟩
  | .hbm, ⟨71, _⟩ => ⟨S1x1536, .i1⟩
  | .hbm, ⟨72, _⟩ => ⟨S1x1536, .i32⟩
  | .hbm, ⟨73, _⟩ => ⟨S1x1536, .i32⟩
  | .hbm, ⟨74, _⟩ => ⟨S_, .i32⟩
  | .hbm, ⟨75, _⟩ => ⟨S1x1536, .i32⟩
  | .hbm, ⟨76, _⟩ => ⟨S1x1536, .i1⟩
  | .hbm, ⟨77, _⟩ => ⟨S1x1536, .i1⟩
  | .hbm, ⟨78, _⟩ => ⟨S_, .i32⟩
  | .hbm, ⟨79, _⟩ => ⟨S1x1536, .i32⟩
  | .hbm, ⟨80, _⟩ => ⟨S1x1536, .i32⟩
  | .hbm, ⟨81, _⟩ => ⟨S1x1536, .i32⟩
  | .hbm, ⟨82, _⟩ => ⟨S1x1536, .i32⟩
  | .hbm, ⟨83, _⟩ => ⟨S128x1536, .i32⟩
  | .hbm, ⟨84, _⟩ => ⟨S128x1536, .i32⟩
  | .hbm, ⟨85, _⟩ => ⟨S128x1536, .i1⟩
  | .hbm, ⟨86, _⟩ => ⟨S128x1536, .i1⟩
  | .hbm, ⟨87, _⟩ => ⟨S128x1536, .i1⟩
  | .hbm, ⟨88, _⟩ => ⟨S128x1536, .f32⟩
  | .hbm, ⟨89, _⟩ => ⟨S128x1536, .bf16⟩
  | .hbm, ⟨90, _⟩ => ⟨S512x1024, .f32⟩
  | .hbm, ⟨91, _⟩ => ⟨S512x1024, .bf16⟩
  | .hbm, ⟨92, _⟩ => ⟨S31x1x512, .f32⟩
  | .hbm, ⟨93, _⟩ => ⟨S31x512, .f32⟩
  | .hbm, ⟨94, _⟩ => ⟨S512, .f32⟩
  | .hbm, ⟨95, _⟩ => ⟨S1x512, .f32⟩
  | .hbm, ⟨96, _⟩ => ⟨S512, .f32⟩
  | .hbm, ⟨97, _⟩ => ⟨S1x512, .f32⟩
  | .hbm, ⟨98, _⟩ => ⟨S512, .f32⟩
  | .hbm, ⟨99, _⟩ => ⟨S1x512, .f32⟩
  | .hbm, ⟨100, _⟩ => ⟨S512x1024, .f32⟩
  | .hbm, ⟨101, _⟩ => ⟨S512x1024, .bf16⟩
  | .hbm, ⟨102, _⟩ => ⟨S1024x1024, .f32⟩
  | .hbm, ⟨103, _⟩ => ⟨S1024x1024, .bf16⟩
  | .hbm, ⟨104, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S256x1024, .f32⟩
  | .local _ .vmem, ⟨9, _⟩ => ⟨S256x1024, .f32⟩
  | .local _ .vmem, ⟨10, _⟩ => ⟨S32x1024, .f32⟩
  | .local _ .vmem, ⟨11, _⟩ => ⟨S32x1024, .f32⟩
  | .local _ .vmem, ⟨12, _⟩ => ⟨S256x2048, .f32⟩
  | .local _ .vmem, ⟨13, _⟩ => ⟨S256x2048, .f32⟩
  | .local _ .vmem, ⟨14, _⟩ => ⟨S256x1024, .f32⟩
  | .local _ .vmem, ⟨15, _⟩ => ⟨S256x1024, .f32⟩
  | .local _ .vmem, ⟨16, _⟩ => ⟨S128x1536, .bf16⟩
  | .local _ .vmem, ⟨17, _⟩ => ⟨S512x1024, .bf16⟩
  | .local _ .vmem, ⟨18, _⟩ => ⟨S31x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S512x1024, .bf16⟩
  | .local _ .vmem, ⟨23, _⟩ => ⟨S1024x1024, .bf16⟩
  | .local _ .vmem, ⟨24, _⟩ => ⟨S256x1024, .f32⟩
  | .local _ .vmem, ⟨25, _⟩ => ⟨S256x1024, .f32⟩
  | .local _ .vmem, ⟨26, _⟩ => ⟨S8x288x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v6 : Ref sig .tc := ⟨.hbm, 38, rfl⟩
abbrev main_c_1 : Ref sig .tc := ⟨.hbm, 39, rfl⟩
abbrev main_v7 : Ref sig .tc := ⟨.hbm, 40, rfl⟩
abbrev main_v8 : Ref sig .tc := ⟨.hbm, 41, rfl⟩
abbrev main_c_2 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v9 : Ref sig .tc := ⟨.hbm, 63, rfl⟩
abbrev main_c_3 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v10 : Ref sig .tc := ⟨.hbm, 81, rfl⟩
abbrev main_v11 : Ref sig .tc := ⟨.hbm, 82, rfl⟩
abbrev main_v12 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S31x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixRefIdeal.lean ====
abbrev S16384x512 : Shape := ⟨2, ![16384, 512]⟩
abbrev S16384x128 : Shape := ⟨2, ![16384, 128]⟩
abbrev S16384x1024 : Shape := ⟨2, ![16384, 1024]⟩
abbrev S16384x2048 : Shape := ⟨2, ![16384, 2048]⟩
abbrev S1x512x1024 : Shape := ⟨3, ![1, 512, 1024]⟩
abbrev S1x31x1x512 : Shape := ⟨4, ![1, 31, 1, 512]⟩
abbrev S1x512 : Shape := ⟨2, ![1, 512]⟩
abbrev S1x1024x1024 : Shape := ⟨3, ![1, 1024, 1024]⟩
abbrev S16384x24 : Shape := ⟨2, ![16384, 24]⟩
abbrev S_ : Shape := ⟨0, ![]⟩
abbrev S16384x3x8x1 : Shape := ⟨4, ![16384, 3, 8, 1]⟩
abbrev S16384x1x8x1 : Shape := ⟨4, ![16384, 1, 8, 1]⟩
abbrev S16384x8x1 : Shape := ⟨3, ![16384, 8, 1]⟩
abbrev S16384x8x64 : Shape := ⟨3, ![16384, 8, 64]⟩
abbrev S512x1024 : Shape := ⟨2, ![512, 1024]⟩
abbrev S4x4096x1024 : Shape := ⟨3, ![4, 4096, 1024]⟩
abbrev S31x1x512 : Shape := ⟨3, ![31, 1, 512]⟩
abbrev S512 : Shape := ⟨1, ![512]⟩
abbrev S4x4096x512 : Shape := ⟨3, ![4, 4096, 512]⟩
abbrev S4x30x512 : Shape := ⟨3, ![4, 30, 512]⟩
abbrev S4x4126x512 : Shape := ⟨3, ![4, 4126, 512]⟩
abbrev S1x1x512 : Shape := ⟨3, ![1, 1, 512]⟩
abbrev S4x4096 : Shape := ⟨2, ![4, 4096]⟩
abbrev S4x4096x1 : Shape := ⟨3, ![4, 4096, 1]⟩
abbrev S1024x1024 : Shape := ⟨2, ![1024, 1024]⟩

abbrev nBuf : Space → Nat
  | .hbm => 342
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x128, .f32⟩
  | 4 => ⟨S16384x1024, .f32⟩
  | 5 => ⟨S16384x2048, .f32⟩
  | 6 => ⟨S16384x1024, .f32⟩
  | 7 => ⟨S1x512x1024, .f32⟩
  | 8 => ⟨S1x31x1x512, .f32⟩
  | 9 => ⟨S1x512, .f32⟩
  | 10 => ⟨S1x512, .f32⟩
  | 11 => ⟨S1x512, .f32⟩
  | 12 => ⟨S1x512x1024, .f32⟩
  | 13 => ⟨S1x1024x1024, .f32⟩
  | 14 => ⟨S16384x24, .f32⟩
  | 15 => ⟨S16384x24, .f32⟩
  | 16 => ⟨S16384x24, .f32⟩
  | 17 => ⟨S_, .f32⟩
  | 18 => ⟨S16384x24, .f32⟩
  | 19 => ⟨S16384x24, .f32⟩
  | 20 => ⟨S_, .f32⟩
  | 21 => ⟨S16384x24, .f32⟩
  | 22 => ⟨S16384x24, .f32⟩
  | 23 => ⟨S16384x3x8x1, .f32⟩
  | 24 => ⟨S16384x1x8x1, .f32⟩
  | 25 => ⟨S16384x8x1, .f32⟩
  | 26 => ⟨S16384x8x64, .f32⟩
  | 27 => ⟨S16384x8x64, .f32⟩
  | 28 => ⟨S16384x8x64, .f32⟩
  | 29 => ⟨S16384x1x8x1, .f32⟩
  | 30 => ⟨S16384x8x1, .f32⟩
  | 31 => ⟨S16384x8x64, .f32⟩
  | 32 => ⟨S16384x8x64, .f32⟩
  | 33 => ⟨S16384x8x64, .f32⟩
  | 34 => ⟨S16384x8x64, .f32⟩
  | 35 => ⟨S16384x1x8x1, .f32⟩
  | 36 => ⟨S16384x8x1, .f32⟩
  | 37 => ⟨S16384x8x64, .f32⟩
  | 38 => ⟨S16384x8x64, .f32⟩
  | 39 => ⟨S16384x8x64, .f32⟩
  | 40 => ⟨S16384x8x64, .f32⟩
  | 41 => ⟨S16384x512, .f32⟩
  | 42 => ⟨S512x1024, .f32⟩
  | 43 => ⟨S16384x1024, .f32⟩
  | 44 => ⟨S4x4096x1024, .f32⟩
  | 45 => ⟨S31x1x512, .f32⟩
  | 46 => ⟨S512, .f32⟩
  | 47 => ⟨S512, .f32⟩
  | 48 => ⟨S512, .f32⟩
  | 49 => ⟨S4x4096x512, .f32⟩
  | 50 => ⟨S4x4096x512, .f32⟩
  | 51 => ⟨S4x4096x512, .f32⟩
  | 52 => ⟨S4x4096x512, .f32⟩
  | 53 => ⟨S_, .f32⟩
  | 54 => ⟨S4x4096x512, .f32⟩
  | 55 => ⟨S4x4096x512, .f32⟩
  | 56 => ⟨S_, .f32⟩
  | 57 => ⟨S4x4096x512, .f32⟩
  | 58 => ⟨S4x4096x512, .f32⟩
  | 59 => ⟨S4x4096x512, .f32⟩
  | 60 => ⟨S_, .f32⟩
  | 61 => ⟨S4x30x512, .f32⟩
  | 62 => ⟨S4x4126x512, .f32⟩
  | 63 => ⟨S_, .f32⟩
  | 64 => ⟨S4x4096x512, .f32⟩
  | 65 => ⟨S4x4096x512, .f32⟩
  | 66 => ⟨S1x1x512, .f32⟩
  | 67 => ⟨S512, .f32⟩
  | 68 => ⟨S1x1x512, .f32⟩
  | 69 => ⟨S4x4096x512, .f32⟩
  | 70 => ⟨S4x4096x512, .f32⟩
  | 71 => ⟨S4x4096x512, .f32⟩
  | 72 => ⟨S4x4096x512, .f32⟩
  | 73 => ⟨S1x1x512, .f32⟩
  | 74 => ⟨S512, .f32⟩
  | 75 => ⟨S1x1x512, .f32⟩
  | 76 => ⟨S4x4096x512, .f32⟩
  | 77 => ⟨S4x4096x512, .f32⟩
  | 78 => ⟨S4x4096x512, .f32⟩
  | 79 => ⟨S4x4096x512, .f32⟩
  | 80 => ⟨S1x1x512, .f32⟩
  | 81 => ⟨S512, .f32⟩
  | 82 => ⟨S1x1x512, .f32⟩
  | 83 => ⟨S4x4096x512, .f32⟩
  | 84 => ⟨S4x4096x512, .f32⟩
  | 85 => ⟨S4x4096x512, .f32⟩
  | 86 => ⟨S4x4096x512, .f32⟩
  | 87 => ⟨S1x1x512, .f32⟩
  | 88 => ⟨S512, .f32⟩
  | 89 => ⟨S1x1x512, .f32⟩
  | 90 => ⟨S4x4096x512, .f32⟩
  | 91 => ⟨S4x4096x512, .f32⟩
  | 92 => ⟨S4x4096x512, .f32⟩
  | 93 => ⟨S4x4096x512, .f32⟩
  | 94 => ⟨S1x1x512, .f32⟩
  | 95 => ⟨S512, .f32⟩
  | 96 => ⟨S1x1x512, .f32⟩
  | 97 => ⟨S4x4096x512, .f32⟩
  | 98 => ⟨S4x4096x512, .f32⟩
  | 99 => ⟨S4x4096x512, .f32⟩
  | 100 => ⟨S4x4096x512, .f32⟩
  | 101 => ⟨S1x1x512, .f32⟩
  | 102 => ⟨S512, .f32⟩
  | 103 => ⟨S1x1x512, .f32⟩
  | 104 => ⟨S4x4096x512, .f32⟩
  | 105 => ⟨S4x4096x512, .f32⟩
  | 106 => ⟨S4x4096x512, .f32⟩
  | 107 => ⟨S4x4096x512, .f32⟩
  | 108 => ⟨S1x1x512, .f32⟩
  | 109 => ⟨S512, .f32⟩
  | 110 => ⟨S1x1x512, .f32⟩
  | 111 => ⟨S4x4096x512, .f32⟩
  | 112 => ⟨S4x4096x512, .f32⟩
  | 113 => ⟨S4x4096x512, .f32⟩
  | 114 => ⟨S4x4096x512, .f32⟩
  | 115 => ⟨S1x1x512, .f32⟩
  | 116 => ⟨S512, .f32⟩
  | 117 => ⟨S1x1x512, .f32⟩
  | 118 => ⟨S4x4096x512, .f32⟩
  | 119 => ⟨S4x4096x512, .f32⟩
  | 120 => ⟨S4x4096x512, .f32⟩
  | 121 => ⟨S4x4096x512, .f32⟩
  | 122 => ⟨S1x1x512, .f32⟩
  | 123 => ⟨S512, .f32⟩
  | 124 => ⟨S1x1x512, .f32⟩
  | 125 => ⟨S4x4096x512, .f32⟩
  | 126 => ⟨S4x4096x512, .f32⟩
  | 127 => ⟨S4x4096x512, .f32⟩
  | _ => ⟨S16384x512, .f32⟩

abbrev hbmTy0_1 (i : Nat) : BufTy := match i % 128 with
  | 0 => ⟨S4x4096x512, .f32⟩
  | 1 => ⟨S1x1x512, .f32⟩
  | 2 => ⟨S512, .f32⟩
  | 3 => ⟨S1x1x512, .f32⟩
  | 4 => ⟨S4x4096x512, .f32⟩
  | 5 => ⟨S4x4096x512, .f32⟩
  | 6 => ⟨S4x4096x512, .f32⟩
  | 7 => ⟨S4x4096x512, .f32⟩
  | 8 => ⟨S1x1x512, .f32⟩
  | 9 => ⟨S512, .f32⟩
  | 10 => ⟨S1x1x512, .f32⟩
  | 11 => ⟨S4x4096x512, .f32⟩
  | 12 => ⟨S4x4096x512, .f32⟩
  | 13 => ⟨S4x4096x512, .f32⟩
  | 14 => ⟨S4x4096x512, .f32⟩
  | 15 => ⟨S1x1x512, .f32⟩
  | 16 => ⟨S512, .f32⟩
  | 17 => ⟨S1x1x512, .f32⟩
  | 18 => ⟨S4x4096x512, .f32⟩
  | 19 => ⟨S4x4096x512, .f32⟩
  | 20 => ⟨S4x4096x512, .f32⟩
  | 21 => ⟨S4x4096x512, .f32⟩
  | 22 => ⟨S1x1x512, .f32⟩
  | 23 => ⟨S512, .f32⟩
  | 24 => ⟨S1x1x512, .f32⟩
  | 25 => ⟨S4x4096x512, .f32⟩
  | 26 => ⟨S4x4096x512, .f32⟩
  | 27 => ⟨S4x4096x512, .f32⟩
  | 28 => ⟨S4x4096x512, .f32⟩
  | 29 => ⟨S1x1x512, .f32⟩
  | 30 => ⟨S512, .f32⟩
  | 31 => ⟨S1x1x512, .f32⟩
  | 32 => ⟨S4x4096x512, .f32⟩
  | 33 => ⟨S4x4096x512, .f32⟩
  | 34 => ⟨S4x4096x512, .f32⟩
  | 35 => ⟨S4x4096x512, .f32⟩
  | 36 => ⟨S1x1x512, .f32⟩
  | 37 => ⟨S512, .f32⟩
  | 38 => ⟨S1x1x512, .f32⟩
  | 39 => ⟨S4x4096x512, .f32⟩
  | 40 => ⟨S4x4096x512, .f32⟩
  | 41 => ⟨S4x4096x512, .f32⟩
  | 42 => ⟨S4x4096x512, .f32⟩
  | 43 => ⟨S1x1x512, .f32⟩
  | 44 => ⟨S512, .f32⟩
  | 45 => ⟨S1x1x512, .f32⟩
  | 46 => ⟨S4x4096x512, .f32⟩
  | 47 => ⟨S4x4096x512, .f32⟩
  | 48 => ⟨S4x4096x512, .f32⟩
  | 49 => ⟨S4x4096x512, .f32⟩
  | 50 => ⟨S1x1x512, .f32⟩
  | 51 => ⟨S512, .f32⟩
  | 52 => ⟨S1x1x512, .f32⟩
  | 53 => ⟨S4x4096x512, .f32⟩
  | 54 => ⟨S4x4096x512, .f32⟩
  | 55 => ⟨S4x4096x512, .f32⟩
  | 56 => ⟨S4x4096x512, .f32⟩
  | 57 => ⟨S1x1x512, .f32⟩
  | 58 => ⟨S512, .f32⟩
  | 59 => ⟨S1x1x512, .f32⟩
  | 60 => ⟨S4x4096x512, .f32⟩
  | 61 => ⟨S4x4096x512, .f32⟩
  | 62 => ⟨S4x4096x512, .f32⟩
  | 63 => ⟨S4x4096x512, .f32⟩
  | 64 => ⟨S1x1x512, .f32⟩
  | 65 => ⟨S512, .f32⟩
  | 66 => ⟨S1x1x512, .f32⟩
  | 67 => ⟨S4x4096x512, .f32⟩
  | 68 => ⟨S4x4096x512, .f32⟩
  | 69 => ⟨S4x4096x512, .f32⟩
  | 70 => ⟨S4x4096x512, .f32⟩
  | 71 => ⟨S1x1x512, .f32⟩
  | 72 => ⟨S512, .f32⟩
  | 73 => ⟨S1x1x512, .f32⟩
  | 74 => ⟨S4x4096x512, .f32⟩
  | 75 => ⟨S4x4096x512, .f32⟩
  | 76 => ⟨S4x4096x512, .f32⟩
  | 77 => ⟨S4x4096x512, .f32⟩
  | 78 => ⟨S1x1x512, .f32⟩
  | 79 => ⟨S512, .f32⟩
  | 80 => ⟨S1x1x512, .f32⟩
  | 81 => ⟨S4x4096x512, .f32⟩
  | 82 => ⟨S4x4096x512, .f32⟩
  | 83 => ⟨S4x4096x512, .f32⟩
  | 84 => ⟨S4x4096x512, .f32⟩
  | 85 => ⟨S1x1x512, .f32⟩
  | 86 => ⟨S512, .f32⟩
  | 87 => ⟨S1x1x512, .f32⟩
  | 88 => ⟨S4x4096x512, .f32⟩
  | 89 => ⟨S4x4096x512, .f32⟩
  | 90 => ⟨S4x4096x512, .f32⟩
  | 91 => ⟨S4x4096x512, .f32⟩
  | 92 => ⟨S1x1x512, .f32⟩
  | 93 => ⟨S512, .f32⟩
  | 94 => ⟨S1x1x512, .f32⟩
  | 95 => ⟨S4x4096x512, .f32⟩
  | 96 => ⟨S4x4096x512, .f32⟩
  | 97 => ⟨S4x4096x512, .f32⟩
  | 98 => ⟨S4x4096x512, .f32⟩
  | 99 => ⟨S1x1x512, .f32⟩
  | 100 => ⟨S512, .f32⟩
  | 101 => ⟨S1x1x512, .f32⟩
  | 102 => ⟨S4x4096x512, .f32⟩
  | 103 => ⟨S4x4096x512, .f32⟩
  | 104 => ⟨S4x4096x512, .f32⟩
  | 105 => ⟨S4x4096x512, .f32⟩
  | 106 => ⟨S1x1x512, .f32⟩
  | 107 => ⟨S512, .f32⟩
  | 108 => ⟨S1x1x512, .f32⟩
  | 109 => ⟨S4x4096x512, .f32⟩
  | 110 => ⟨S4x4096x512, .f32⟩
  | 111 => ⟨S4x4096x512, .f32⟩
  | 112 => ⟨S4x4096x512, .f32⟩
  | 113 => ⟨S1x1x512, .f32⟩
  | 114 => ⟨S512, .f32⟩
  | 115 => ⟨S1x1x512, .f32⟩
  | 116 => ⟨S4x4096x512, .f32⟩
  | 117 => ⟨S4x4096x512, .f32⟩
  | 118 => ⟨S4x4096x512, .f32⟩
  | 119 => ⟨S4x4096x512, .f32⟩
  | 120 => ⟨S1x1x512, .f32⟩
  | 121 => ⟨S512, .f32⟩
  | 122 => ⟨S1x1x512, .f32⟩
  | 123 => ⟨S4x4096x512, .f32⟩
  | 124 => ⟨S4x4096x512, .f32⟩
  | 125 => ⟨S4x4096x512, .f32⟩
  | 126 => ⟨S4x4096x512, .f32⟩
  | 127 => ⟨S1x1x512, .f32⟩
  | _ => ⟨S16384x512, .f32⟩

abbrev hbmTy0_2 (i : Nat) : BufTy := match i % 128 with
  | 0 => ⟨S512, .f32⟩
  | 1 => ⟨S1x1x512, .f32⟩
  | 2 => ⟨S4x4096x512, .f32⟩
  | 3 => ⟨S4x4096x512, .f32⟩
  | 4 => ⟨S4x4096x512, .f32⟩
  | 5 => ⟨S4x4096x512, .f32⟩
  | 6 => ⟨S1x1x512, .f32⟩
  | 7 => ⟨S512, .f32⟩
  | 8 => ⟨S1x1x512, .f32⟩
  | 9 => ⟨S4x4096x512, .f32⟩
  | 10 => ⟨S4x4096x512, .f32⟩
  | 11 => ⟨S4x4096x512, .f32⟩
  | 12 => ⟨S4x4096x512, .f32⟩
  | 13 => ⟨S1x1x512, .f32⟩
  | 14 => ⟨S512, .f32⟩
  | 15 => ⟨S1x1x512, .f32⟩
  | 16 => ⟨S4x4096x512, .f32⟩
  | 17 => ⟨S4x4096x512, .f32⟩
  | 18 => ⟨S4x4096x512, .f32⟩
  | 19 => ⟨S4x4096x512, .f32⟩
  | 20 => ⟨S1x1x512, .f32⟩
  | 21 => ⟨S512, .f32⟩
  | 22 => ⟨S1x1x512, .f32⟩
  | 23 => ⟨S4x4096x512, .f32⟩
  | 24 => ⟨S4x4096x512, .f32⟩
  | 25 => ⟨S4x4096x512, .f32⟩
  | 26 => ⟨S1x1x512, .f32⟩
  | 27 => ⟨S4x4096x512, .f32⟩
  | 28 => ⟨S4x4096x512, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S4x4096x512, .f32⟩
  | 36 => ⟨S4x4096x512, .f32⟩
  | 37 => ⟨S4x4096x512, .f32⟩
  | 38 => ⟨S_, .f32⟩
  | 39 => ⟨S4x4096, .f32⟩
  | 40 => ⟨S4x4096x1, .f32⟩
  | 41 => ⟨S_, .f32⟩
  | 42 => ⟨S4x4096x1, .f32⟩
  | 43 => ⟨S4x4096x1, .f32⟩
  | 44 => ⟨S4x4096x512, .f32⟩
  | 45 => ⟨S4x4096x512, .f32⟩
  | 46 => ⟨S_, .f32⟩
  | 47 => ⟨S4x4096x1, .f32⟩
  | 48 => ⟨S4x4096x1, .f32⟩
  | 49 => ⟨S4x4096x1, .f32⟩
  | 50 => ⟨S4x4096x512, .f32⟩
  | 51 => ⟨S4x4096x512, .f32⟩
  | 52 => ⟨S1x1x512, .f32⟩
  | 53 => ⟨S4x4096x512, .f32⟩
  | 54 => ⟨S4x4096x512, .f32⟩
  | 55 => ⟨S1x1x512, .f32⟩
  | 56 => ⟨S4x4096x512, .f32⟩
  | 57 => ⟨S4x4096x512, .f32⟩
  | 58 => ⟨S4x4096x512, .f32⟩
  | 59 => ⟨S4x4096x512, .f32⟩
  | 60 => ⟨S_, .f32⟩
  | 61 => ⟨S4x4096x512, .f32⟩
  | 62 => ⟨S4x4096x512, .f32⟩
  | 63 => ⟨S_, .f32⟩
  | 64 => ⟨S4x4096x512, .f32⟩
  | 65 => ⟨S4x4096x512, .f32⟩
  | 66 => ⟨S4x4096x512, .f32⟩
  | 67 => ⟨S16384x512, .f32⟩
  | 68 => ⟨S512x1024, .f32⟩
  | 69 => ⟨S16384x1024, .f32⟩
  | 70 => ⟨S16384x2048, .f32⟩
  | 71 => ⟨S16384x2048, .f32⟩
  | 72 => ⟨S_, .f32⟩
  | 73 => ⟨S16384x2048, .f32⟩
  | 74 => ⟨S16384x2048, .f32⟩
  | 75 => ⟨S_, .f32⟩
  | 76 => ⟨S16384x2048, .f32⟩
  | 77 => ⟨S16384x2048, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S1024x1024, .f32⟩
  | 84 => ⟨S16384x1024, .f32⟩
  | 85 => ⟨S16384x1024, .f32⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_1 : Ref sig .tc := ⟨.hbm, 53, rfl⟩
abbrev main_v37 : Ref sig .tc := ⟨.hbm, 54, rfl⟩
abbrev main_v38 : Ref sig .tc := ⟨.hbm, 55, rfl⟩
abbrev main_cst_2 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_cst_5 : Ref sig .tc := ⟨.hbm, 285, rfl⟩
abbrev main_v265 : Ref sig .tc := ⟨.hbm, 286, rfl⟩
abbrev main_v266 : Ref sig .tc := ⟨.hbm, 287, rfl⟩
abbrev main_cst_6 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_cst_7 : Ref sig .tc := ⟨.hbm, 294, rfl⟩
abbrev main_v272 : Ref sig .tc := ⟨.hbm, 295, rfl⟩
abbrev main_v273 : Ref sig .tc := ⟨.hbm, 296, rfl⟩
abbrev main_cst_8 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_cst_9 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_call0_v0 : Ref sig .tc := ⟨.hbm, 314, rfl⟩
abbrev main_call0_v1 : Ref sig .tc := ⟨.hbm, 315, rfl⟩
abbrev main_call0_cst : Ref sig .tc := ⟨.hbm, 316, rfl⟩
abbrev main_call0_v2 : Ref sig .tc := ⟨.hbm, 317, rfl⟩
abbrev main_call0_v3 : Ref sig .tc := ⟨.hbm, 318, rfl⟩
abbrev main_call0_cst_0 : Ref sig .tc := ⟨.hbm, 319, rfl⟩
abbrev main_call0_v4 : Ref sig .tc := ⟨.hbm, 320, rfl⟩
abbrev main_call0_v5 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_cst_10 : Ref sig .tc := ⟨.hbm, 328, rfl⟩
abbrev main_v295 : Ref sig .tc := ⟨.hbm, 329, rfl⟩
abbrev main_v296 : Ref sig .tc := ⟨.hbm, 330, rfl⟩
abbrev main_cst_11 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_v304 : Ref sig .tc := ⟨.hbm, 339, rfl⟩
abbrev main_v305 : Ref sig .tc := ⟨.hbm, 340, rfl⟩
abbrev main_v306 : Ref sig .tc := ⟨.hbm, 341, rfl⟩

abbrev nD : Nat := 1
abbrev τ : Topo := Topo.v7x

variable {F : FTy → Type} [FloatOps F]
-- ==== Win.lean ====
abbrev S16384x1280 : Shape := ⟨2, ![16384, 1280]⟩
abbrev S4x2x4096x128 : Shape := ⟨4, ![4, 2, 4096, 128]⟩
abbrev S16384x512 : Shape := ⟨2, ![16384, 512]⟩
abbrev S256x512 : Shape := ⟨2, ![256, 512]⟩
abbrev S1x2x4096x128 : Shape := ⟨4, ![1, 2, 4096, 128]⟩
abbrev S4096x128 : Shape := ⟨2, ![4096, 128]⟩
abbrev S2x1024x128 : Shape := ⟨3, ![2, 1024, 128]⟩
abbrev S2x1x1024 : Shape := ⟨3, ![2, 1, 1024]⟩
abbrev S128x1024 : Shape := ⟨2, ![128, 1024]⟩
abbrev S256x1024 : Shape := ⟨2, ![256, 1024]⟩
abbrev S1x1024 : Shape := ⟨2, ![1, 1024]⟩
abbrev S256x64 : Shape := ⟨2, ![256, 64]⟩
abbrev S256x128 : Shape := ⟨2, ![256, 128]⟩
abbrev S1024x128 : Shape := ⟨2, ![1024, 128]⟩
abbrev S1x1024x128 : Shape := ⟨3, ![1, 1024, 128]⟩
abbrev S1x1x256x128 : Shape := ⟨4, ![1, 1, 256, 128]⟩
abbrev S1x1x1024 : Shape := ⟨3, ![1, 1, 1024]⟩
abbrev S1024 : Shape := ⟨1, ![1024]⟩
abbrev S64x1024 : Shape := ⟨2, ![64, 1024]⟩

abbrev nBuf : Space → Nat
  | .hbm => 3
  | .vmem => 12
  | .smem => 0
  | _ => 0

abbrev bufTy : (tb : Table) → Fin (tcTables nBuf tb) → BufTy
  | .hbm, ⟨0, _⟩ => ⟨S16384x1280, .f32⟩
  | .hbm, ⟨1, _⟩ => ⟨S4x2x4096x128, .bf16⟩
  | .hbm, ⟨2, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S1x2x4096x128, .bf16⟩
  | .local _ .vmem, ⟨3, _⟩ => ⟨S1x2x4096x128, .bf16⟩
  | .local _ .vmem, ⟨4, _⟩ => ⟨S4096x128, .f32⟩
  | .local _ .vmem, ⟨5, _⟩ => ⟨S4096x128, .f32⟩
  | .local _ .vmem, ⟨6, _⟩ => ⟨S256x512, .f32⟩
  | .local _ .vmem, ⟨7, _⟩ => ⟨S256x512, .f32⟩
  | .local _ .vmem, ⟨8, _⟩ => ⟨S2x1024x128, .bf16⟩
  | .local _ .vmem, ⟨9, _⟩ => ⟨S2x1x1024, .f32⟩
  | .local _ .vmem, ⟨10, _⟩ => ⟨S2x1x1024, .f32⟩
  | .local _ .vmem, ⟨11, _⟩ => ⟨S128x1024, .f32⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32_103 : BitVec 32 := 0#32
  let v256 : BitVec 1 := Scalar.cmpi .eq arg1 c0_i32_103
  let v257 : BitVec 32 := Scalar.extui v256
  let c0_i32_104 : BitVec 32 := 0#32
  let v258 : BitVec 1 := Scalar.cmpi .ne v257 c0_i32_104
  v258

def k0_mult1 (i : grid0.Coords) : BitVec 32 :=
  let arg1 : BitVec 32 := BitVec.ofNat 32 (i 1).val
  let c256_i32_141 : BitVec 32 := 256#32
  let v299 : BitVec 32 := Scalar.muli arg1 c256_i32_141
  v299
def k0_off1 (i : grid0.Coords) : Fin 4 → Nat :=
  let c0_142 : Index := 0#32
  let c0_143 : Index := 0#32
  let arg1 : BitVec 32 := BitVec.ofNat 32 (i 1).val
  let c256_i32_141 : BitVec 32 := 256#32
  let v299 : BitVec 32 := Scalar.muli arg1 c256_i32_141
  let v300 : BitVec 32 := v299
  let v301 : Index := Scalar.indexCast v300
  let c0_144 : Index := 0#32
  ![0, 0, v301.toNat, 0]
def k0_off2 (i : grid0.Coords) : Fin 2 → Nat :=
  let arg1 : BitVec 32 := BitVec.ofNat 32 (i 1).val
  let c256_i32_141 : BitVec 32 := 256#32
  let v299 : BitVec 32 := Scalar.muli arg1 c256_i32_141
  let v300 : BitVec 32 := v299
  let v304 : Index := Scalar.indexCast v300
  let c0_145 : Index := 0#32
  ![v304.toNat, 0]
def k0_mult2 (i : grid0.Coords) : BitVec 32 :=
  let arg1 : BitVec 32 := BitVec.ofNat 32 (i 1).val
  let c256_i32_170 : BitVec 32 := 256#32
  let v349 : BitVec 32 := Scalar.muli arg1 c256_i32_170
  v349
def k0_off3 (i : grid0.Coords) : Fin 4 → Nat :=
  let c0_171 : Index := 0#32
  let c1_172 : Index := 1#32
  let arg1 : BitVec 32 := BitVec.ofNat 32 (i 1).val
  let c256_i32_170 : BitVec 32 := 256#32
  let v349 : BitVec 32 := Scalar.muli arg1 c256_i32_170
  let v350 : BitVec 32 := v349
  let v351 : Index := Scalar.indexCast v350
  let c0_173 : Index := 0#32
  ![0, 1, v351.toNat, 0]
def k0_off4 (i : grid0.Coords) : Fin 2 → Nat :=
  let arg1 : BitVec 32 := BitVec.ofNat 32 (i 1).val
  let c256_i32_170 : BitVec 32 := 256#32
  let v349 : BitVec 32 := Scalar.muli arg1 c256_i32_170
  let v350 : BitVec 32 := v349
  let v354 : Index := Scalar.indexCast v350
  let c64_174 : Index := 64#32
  ![v354.toNat, 64]
def k0_cond2 (i : grid0.Coords) : BitVec 1 :=
  let arg1 : BitVec 32 := BitVec.ofNat 32 (i 1).val
  let c1_i32_105 : BitVec 32 := 1#32
  let v259 : BitVec 1 := Scalar.cmpi .eq arg1 c1_i32_105
  let v260 : BitVec 32 := Scalar.extui v259
  let c0_i32_106 : BitVec 32 := 0#32
  let v261 : BitVec 1 := Scalar.cmpi .ne v260 c0_i32_106
  v261

def k0_mult3 (i : grid0.Coords) : BitVec 32 :=
  let arg1 : BitVec 32 := BitVec.ofNat 32 (i 1).val
  let c256_i32_142 : BitVec 32 := 256#32
  let v300 : BitVec 32 := Scalar.muli arg1 c256_i32_142
  v300
def k0_off5 (i : grid0.Coords) : Fin 4 → Nat :=
  let c0_143 : Index := 0#32
  let c0_144 : Index := 0#32
  let arg1 : BitVec 32 := BitVec.ofNat 32 (i 1).val
  let c256_i32_142 : BitVec 32 := 256#32
  let v300 : BitVec 32 := Scalar.muli arg1 c256_i32_142
  let v301 : BitVec 32 := v300
  let v302 : Index := Scalar.indexCast v301
  let c0_145 : Index := 0#32
  ![0, 0, v302.toNat, 0]
def k0_off6 (i : grid0.Coords) : Fin 2 → Nat :=
  let arg1 : BitVec 32 := BitVec.ofNat 32 (i 1).val
  let c256_i32_142 : BitVec 32 := 256#32
  let v300 : BitVec 32 := Scalar.muli arg1 c256_i32_142
  let v301 : BitVec 32 := v300
  let v305 : Index := Scalar.indexCast v301
  let c0_146 : Index := 0#32
  ![v305.toNat, 0]
def k0_mult4 (i : grid0.Coords) : BitVec 32 :=
  let arg1 : BitVec 32 := BitVec.ofNat 32 (i 1).val
  let c1_i32_141 : BitVec 32 := 1#32
  let v299 : BitVec 32 := Scalar.subi arg1 c1_i32_141
  let c256_i32_152 : BitVec 32 := 256#32
  let v317 : BitVec 32 := Scalar.muli v299 c256_i32_152
  v317
def k0_off7 (i : grid0.Coords) : Fin 4 → Nat :=
  let c0_153 : Index := 0#32
  let c0_154 : Index := 0#32
  let arg1 : BitVec 32 := BitVec.ofNat 32 (i 1).val
  let c1_i32_141 : BitVec 32 := 1#32
  let v299 : BitVec 32 := Scalar.subi arg1 c1_i32_141
  let c256_i32_152 : BitVec 32 := 256#32
  let v317 : BitVec 32 := Scalar.muli v299 c256_i32_152
  let v318 : BitVec 32 := v317
  let v319 : Index := Scalar.indexCast v318
  let c0_155 : Index := 0#32
  ![0, 0, v319.toNat, 0]
def k0_off8 (i : grid0.Coords) : Fin 2 → Nat :=
  let arg1 : BitVec 32 := BitVec.ofNat 32 (i 1).val
  let c1_i32_141 : BitVec 32 := 1#32
  let v299 : BitVec 32 := Scalar.subi arg1 c1_i32_141
  let c256_i32_152 : BitVec 32 := 256#32
  let v317 : BitVec 32 := Scalar.muli v299 c256_i32_152
  let v318 : BitVec 32 := v317
  let v322 : Index := Scalar.indexCast v318
  let c0_156 : Index := 0#32
  ![v322.toNat, 0]
def k0_mult5 (i : grid0.Coords) : BitVec 32 :=
  let arg1 : BitVec 32 := BitVec.ofNat 32 (i 1).val
  let c256_i32_183 : BitVec 32 := 256#32
  let v379 : BitVec 32 := Scalar.muli arg1 c256_i32_183
  v379
def k0_off9 (i : grid0.Coords) : Fin 4 → Nat :=
  let c0_184 : Index := 0#32
  let c1_185 : Index := 1#32
  let arg1 : BitVec 32 := BitVec.ofNat 32 (i 1).val
  let c256_i32_183 : BitVec 32 := 256#32
  let v379 : BitVec 32 := Scalar.muli arg1 c256_i32_183
  let v380 : BitVec 32 := v379
  let v381 : Index := Scalar.indexCast v380
  let c0_186 : Index := 0#32
  ![0, 1, v381.toNat, 0]
def k0_off10 (i : grid0.Coords) : Fin 2 → Nat :=
  let arg1 : BitVec 32 := BitVec.ofNat 32 (i 1).val
  let c256_i32_183 : BitVec 32 := 256#32
  let v379 : BitVec 32 := Scalar.muli arg1 c256_i32_183
  let v380 : BitVec 32 := v379
  let v384 : Index := Scalar.indexCast v380
  let c64_187 : Index := 64#32
  ![v384.toNat, 64]
def k0_mult6 (i : grid0.Coords) : BitVec 32 :=
  let arg1 : BitVec 32 := BitVec.ofNat 32 (i 1).val
  let c1_i32_141 : BitVec 32 := 1#32
  let v299 : BitVec 32 := Scalar.subi arg1 c1_i32_141
  let c256_i32_193 : BitVec 32 := 256#32
  let v396 : BitVec 32 := Scalar.muli v299 c256_i32_193
  v396
def k0_off11 (i : grid0.Coords) : Fin 4 → Nat :=
  let c0_194 : Index := 0#32
  let c1_195 : Index := 1#32
  let arg1 : BitVec 32 := BitVec.ofNat 32 (i 1).val
  let c1_i32_141 : BitVec 32 := 1#32
  let v299 : BitVec 32 := Scalar.subi arg1 c1_i32_141
  let c256_i32_193 : BitVec 32 := 256#32
  let v396 : BitVec 32 := Scalar.muli v299 c256_i32_193
  let v397 : BitVec 32 := v396
  let v398 : Index := Scalar.indexCast v397
  let c0_196 : Index := 0#32
  ![0, 1, v398.toNat, 0]
def k0_off12 (i : grid0.Coords) : Fin 2 → Nat :=
  let arg1 : BitVec 32 := BitVec.ofNat 32 (i 1).val
  let c1_i32_141 : BitVec 32 := 1#32
  let v299 : BitVec 32 := Scalar.subi arg1 c1_i32_141
  let c256_i32_193 : BitVec 32 := 256#32
  let v396 : BitVec 32 := Scalar.muli v299 c256_i32_193
  let v397 : BitVec 32 := v396
  let v401 : Index := Scalar.indexCast v397
  let c64_197 : Index := 64#32
  ![v401.toNat, 64]
def k0_cond3 (i : grid0.Coords) : BitVec 1 :=
  let arg1 : BitVec 32 := BitVec.ofNat 32 (i 1).val
  let c2_i32_107 : BitVec 32 := 2#32
  let v262 : BitVec 1 := Scalar.cmpi .sge arg1 c2_i32_107
  let v263 : BitVec 32 := Scalar.extui v262
  let c0_i32_108 : BitVec 32 := 0#32
  let v264 : BitVec 1 := Scalar.cmpi .ne v263 c0_i32_108
  v264

def k0_mult7 (i : grid0.Coords) : BitVec 32 :=
  let arg1 : BitVec 32 := BitVec.ofNat 32 (i 1).val
  let c256_i32_143 : BitVec 32 := 256#32
  let v302 : BitVec 32 := Scalar.muli arg1 c256_i32_143
  v302
def k0_off13 (i : grid0.Coords) : Fin 4 → Nat :=
  let c0_144 : Index := 0#32
  let c0_145 : Index := 0#32
  let arg1 : BitVec 32 := BitVec.ofNat 32 (i 1).val
  let c256_i32_143 : BitVec 32 := 256#32
  let v302 : BitVec 32 := Scalar.muli arg1 c256_i32_143
  let v303 : BitVec 32 := v302
  let v304 : Index := Scalar.indexCast v303
  let c0_146 : Index := 0#32
  ![0, 0, v304.toNat, 0]
def k0_off14 (i : grid0.Coords) : Fin 2 → Nat :=
  let arg1 : BitVec 32 := BitVec.ofNat 32 (i 1).val
  let c256_i32_143 : BitVec 32 := 256#32
  let v302 : BitVec 32 := Scalar.muli arg1 c256_i32_143
  let v303 : BitVec 32 := v302
  let v307 : Index := Scalar.indexCast v303
  let c0_147 : Index := 0#32
  ![v307.toNat, 0]
def k0_mult8 (i : grid0.Coords) : BitVec 32 :=
  let arg1 : BitVec 32 := BitVec.ofNat 32 (i 1).val
  let c1_i32_141 : BitVec 32 := 1#32
  let v299 : BitVec 32 := Scalar.subi arg1 c1_i32_141
  let c256_i32_153 : BitVec 32 := 256#32
  let v319 : BitVec 32 := Scalar.muli v299 c256_i32_153
  v319
def k0_off15 (i : grid0.Coords) (c1_i32_141 : BitVec 32) : Fin 4 → Nat :=
  let c0_154 : Index := 0#32
  let c0_155 : Index := 0#32
  let arg1 : BitVec 32 := BitVec.ofNat 32 (i 1).val
  let v299 : BitVec 32 := Scalar.subi arg1 c1_i32_141
  let c256_i32_153 : BitVec 32 := 256#32
  let v319 : BitVec 32 := Scalar.muli v299 c256_i32_153
  let v320 : BitVec 32 := v319
  let v321 : Index := Scalar.indexCast v320
  let c0_156 : Index := 0#32
  ![0, 0, v321.toNat, 0]
def k0_off16 (i : grid0.Coords) (c1_i32_141 : BitVec 32) : Fin 2 → Nat :=
  let arg1 : BitVec 32 := BitVec.ofNat 32 (i 1).val
  let v299 : BitVec 32 := Scalar.subi arg1 c1_i32_141
  let c256_i32_153 : BitVec 32 := 256#32
  let v319 : BitVec 32 := Scalar.muli v299 c256_i32_153
  let v320 : BitVec 32 := v319
  let v324 : Index := Scalar.indexCast v320
  let c0_157 : Index := 0#32
  ![v324.toNat, 0]
def k0_mult9 (i : grid0.Coords) : BitVec 32 :=
  let arg1 : BitVec 32 := BitVec.ofNat 32 (i 1).val
  let c2_i32_142 : BitVec 32 := 2#32
  let v300 : BitVec 32 := Scalar.subi arg1 c2_i32_142
  let c256_i32_162 : BitVec 32 := 256#32
  let v334 : BitVec 32 := Scalar.muli v300 c256_i32_162
  v334
def k0_mult10 (i : grid0.Coords) : BitVec 32 :=
  let arg1 : BitVec 32 := BitVec.ofNat 32 (i 1).val
  let c256_i32_197 : BitVec 32 := 256#32
  let v412 : BitVec 32 := Scalar.muli arg1 c256_i32_197
  v412
def k0_off17 (i : grid0.Coords) : Fin 4 → Nat :=
  let c0_198 : Index := 0#32
  let c1_199 : Index := 1#32
  let arg1 : BitVec 32 := BitVec.ofNat 32 (i 1).val
  let c256_i32_197 : BitVec 32 := 256#32
  let v412 : BitVec 32 := Scalar.muli arg1 c256_i32_197
  let v413 : BitVec 32 := v412
  let v414 : Index := Scalar.indexCast v413
  let c0_200 : Index := 0#32
  ![0, 1, v414.toNat, 0]
def k0_off18 (i : grid0.Coords) : Fin 2 → Nat :=
  let arg1 : BitVec 32 := BitVec.ofNat 32 (i 1).val
  let c256_i32_197 : BitVec 32 := 256#32
  let v412 : BitVec 32 := Scalar.muli arg1 c256_i32_197
  let v413 : BitVec 32 := v412
  let v417 : Index := Scalar.indexCast v413
  let c64_201 : Index := 64#32
  ![v417.toNat, 64]
def k0_mult11 (i : grid0.Coords) : BitVec 32 :=
  let arg1 : BitVec 32 := BitVec.ofNat 32 (i 1).val
  let c1_i32_141 : BitVec 32 := 1#32
  let v299 : BitVec 32 := Scalar.subi arg1 c1_i32_141
  let c256_i32_207 : BitVec 32 := 256#32
  let v429 : BitVec 32 := Scalar.muli v299 c256_i32_207
  v429
def k0_off19 (i : grid0.Coords) (c1_i32_141 : BitVec 32) : Fin 4 → Nat :=
  let c0_208 : Index := 0#32
  let c1_209 : Index := 1#32
  let arg1 : BitVec 32 := BitVec.ofNat 32 (i 1).val
  let v299 : BitVec 32 := Scalar.subi arg1 c1_i32_141
  let c256_i32_207 : BitVec 32 := 256#32
  let v429 : BitVec 32 := Scalar.muli v299 c256_i32_207
  let v430 : BitVec 32 := v429
  let v431 : Index := Scalar.indexCast v430
  let c0_210 : Index := 0#32
  ![0, 1, v431.toNat, 0]
def k0_off20 (i : grid0.Coords) (c1_i32_141 : BitVec 32) : Fin 2 → Nat :=
  let arg1 : BitVec 32 := BitVec.ofNat 32 (i 1).val
  let v299 : BitVec 32 := Scalar.subi arg1 c1_i32_141
  let c256_i32_207 : BitVec 32 := 256#32
  let v429 : BitVec 32 := Scalar.muli v299 c256_i32_207
  let v430 : BitVec 32 := v429
  let v434 : Index := Scalar.indexCast v430
  let c64_211 : Index := 64#32
  ![v434.toNat, 64]
def k0_mult12 (i : grid0.Coords) : BitVec 32 :=
  let arg1 : BitVec 32 := BitVec.ofNat 32 (i 1).val
  let c2_i32_142 : BitVec 32 := 2#32
  let v300 : BitVec 32 := Scalar.subi arg1 c2_i32_142
  let c256_i32_216 : BitVec 32 := 256#32
  let v444 : BitVec 32 := Scalar.muli v300 c256_i32_216
  v444
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== WinIdeal.lean ====
variable {F : FTy → Type} [FloatOps F] [Named F]
def κ : String → Option EReal := fun
  | "mask" => some ⊥
  | "minus1" => some ((-((1 / 2) * (Real.log 2)⁻¹) : ℝ) : EReal)
  | "minus2" => some ((-((1 / 4) * (Real.log 2)⁻¹) : ℝ) : EReal)
  | "minus3" => some ((-((1 / 8) * (Real.log 2)⁻¹) : ℝ) : EReal)
  | "minus4" => some ((-((1 / 16) * (Real.log 2)⁻¹) : ℝ) : EReal)
  | "minus5" => some ((-((1 / 32) * (Real.log 2)⁻¹) : ℝ) : EReal)
  | "minus6" => some ((-((1 / 64) * (Real.log 2)⁻¹) : ℝ) : EReal)
  | "minus7" => some ((-((1 / 128) * (Real.log 2)⁻¹) : ℝ) : EReal)
  | "minus8" => some ((-((1 / 256) * (Real.log 2)⁻¹) : ℝ) : EReal)
  | "slope1" => some (((1 / 2) * (Real.log 2)⁻¹ : ℝ) : EReal)
  | "slope2" => some (((1 / 4) * (Real.log 2)⁻¹ : ℝ) : EReal)
  | "slope3" => some (((1 / 8) * (Real.log 2)⁻¹ : ℝ) : EReal)
  | "slope4" => some (((1 / 16) * (Real.log 2)⁻¹ : ℝ) : EReal)
  | "slope5" => some (((1 / 32) * (Real.log 2)⁻¹ : ℝ) : EReal)
  | "slope6" => some (((1 / 64) * (Real.log 2)⁻¹ : ℝ) : EReal)
  | "slope7" => some (((1 / 128) * (Real.log 2)⁻¹ : ℝ) : EReal)
  | "slope8" => some (((1 / 256) * (Real.log 2)⁻¹ : ℝ) : EReal)
  | _ => none
-- ==== WinRefIdeal.lean ====
abbrev S16384x1280 : Shape := ⟨2, ![16384, 1280]⟩
abbrev S4x2x4096x128 : Shape := ⟨4, ![4, 2, 4096, 128]⟩
abbrev S16384x512 : Shape := ⟨2, ![16384, 512]⟩
abbrev S4x4096x2x4x64 : Shape := ⟨5, ![4, 4096, 2, 4, 64]⟩
abbrev S4x2x4096x64 : Shape := ⟨4, ![4, 2, 4096, 64]⟩
abbrev S16384x128 : Shape := ⟨2, ![16384, 128]⟩
abbrev S4x4096x2x64 : Shape := ⟨4, ![4, 4096, 2, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x2x4096x4096x4 : Shape := ⟨5, ![4, 2, 4096, 4096, 4]⟩
abbrev S4x2x4x4096x4096 : Shape := ⟨5, ![4, 2, 4, 4096, 4096]⟩
abbrev S8 : Shape := ⟨1, ![8]⟩
abbrev S2x4 : Shape := ⟨2, ![2, 4]⟩
abbrev S1x2x4x1x1 : Shape := ⟨5, ![1, 2, 4, 1, 1]⟩
abbrev S1x1x1x4096x4096 : Shape := ⟨5, ![1, 1, 1, 4096, 4096]⟩
abbrev S1x2x4x4096x4096 : Shape := ⟨5, ![1, 2, 4, 4096, 4096]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩

abbrev nBuf : Space → Nat
  | .hbm => 71
  | .vmem => 0
  | .smem => 0
  | _ => 0

abbrev bufTy : (tb : Table) → Fin (tcTables nBuf tb) → BufTy
  | .hbm, ⟨0, _⟩ => ⟨S16384x1280, .f32⟩
  | .hbm, ⟨1, _⟩ => ⟨S4x2x4096x128, .bf16⟩
  | .hbm, ⟨2, _⟩ => ⟨S16384x512, .f32⟩
  | .hbm, ⟨3, _⟩ => ⟨S4x4096x2x4x64, .f32⟩
  | .hbm, ⟨4, _⟩ => ⟨S4x2x4096x64, .bf16⟩
  | .hbm, ⟨5, _⟩ => ⟨S4x2x4096x64, .f32⟩
  | .hbm, ⟨6, _⟩ => ⟨S16384x128, .f32⟩
  | .hbm, ⟨7, _⟩ => ⟨S4x4096x2x64, .f32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i1⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S4096x4096, .i1⟩
  | .hbm, ⟨21, _⟩ => ⟨S4x2x4096x4096x4, .f32⟩
  | .hbm, ⟨22, _⟩ => ⟨S4x2x4x4096x4096, .f32⟩
  | .hbm, ⟨23, _⟩ => ⟨S_, .f32⟩
  | .hbm, ⟨24, _⟩ => ⟨S4x2x4x4096x4096, .f32⟩
  | .hbm, ⟨25, _⟩ => ⟨S4x2x4x4096x4096, .f32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S2x4, .f32⟩
  | .hbm, ⟨35, _⟩ => ⟨S1x2x4x1x1, .f32⟩
  | .hbm, ⟨36, _⟩ => ⟨S4096x4096, .f32⟩
  | .hbm, ⟨37, _⟩ => ⟨S1x1x1x4096x4096, .f32⟩
  | .hbm, ⟨38, _⟩ => ⟨S1x2x4x4096x4096, .f32⟩
  | .hbm, ⟨39, _⟩ => ⟨S1x2x4x4096x4096, .f32⟩
  | .hbm, ⟨40, _⟩ => ⟨S1x2x4x4096x4096, .f32⟩
  | .hbm, ⟨41, _⟩ => ⟨S4x2x4x4096x4096, .f32⟩
  | .hbm, ⟨42, _⟩ => ⟨S4x2x4x4096x4096, .f32⟩
  | .hbm, ⟨43, _⟩ => ⟨S1x1x1x4096x4096, .i1⟩
  | .hbm, ⟨44, _⟩ => ⟨S_, .f32⟩
  | .hbm, ⟨45, _⟩ => ⟨S_, .f32⟩
  | .hbm, ⟨46, _⟩ => ⟨S4x2x4x4096x4096, .i1⟩
  | .hbm, ⟨47, _⟩ => ⟨S4x2x4x4096x4096, .f32⟩
  | .hbm, ⟨48, _⟩ => ⟨S4x2x4x4096x4096, .f32⟩
  | .hbm, ⟨49, _⟩ => ⟨S_, .f32⟩
  | .hbm, ⟨50, _⟩ => ⟨S4x2x4x4096, .f32⟩
  | .hbm, ⟨51, _⟩ => ⟨S_, .f32⟩
  | .hbm, ⟨52, _⟩ => ⟨S4x2x4x4096, .f32⟩
  | .hbm, ⟨53, _⟩ => ⟨S4x2x4x4096, .f32⟩
  | .hbm, ⟨54, _⟩ => ⟨S4x2x4x4096x1, .f32⟩
  | .hbm, ⟨55, _⟩ => ⟨S4x2x4x4096x4096, .f32⟩
  | .hbm, ⟨56, _⟩ => ⟨S4x2x4x4096x4096, .f32⟩
  | .hbm, ⟨57, _⟩ => ⟨S4x2x4x4096x4096, .f32⟩
  | .hbm, ⟨58, _⟩ => ⟨S_, .f32⟩
  | .hbm, ⟨59, _⟩ => ⟨S4x2x4x4096, .f32⟩
  | .hbm, ⟨60, _⟩ => ⟨S4x2x4x4096x1, .f32⟩
  | .hbm, ⟨61, _⟩ => ⟨S4x2x4x4096x4096, .f32⟩
  | .hbm, ⟨62, _⟩ => ⟨S4x2x4x4096x4096, .f32⟩
  | .hbm, ⟨63, _⟩ => ⟨S_, .f32⟩
  | .hbm, ⟨64, _⟩ => ⟨S_, .f32⟩
  | .hbm, ⟨65, _⟩ => ⟨S4x2x4x4096x4096, .i1⟩
  | .hbm, ⟨66, _⟩ => ⟨S4x2x4x4096x4096, .f32⟩
  | .hbm, ⟨67, _⟩ => ⟨S4x2x4x4096x4096, .f32⟩
  | .hbm, ⟨68, _⟩ => ⟨S4x2x64x4x4096, .f32⟩
  | .hbm, ⟨69, _⟩ => ⟨S4x4096x2x4x64, .f32⟩
  | .hbm, ⟨70, _⟩ => ⟨S16384x512, .f32⟩
  | _, _ => ⟨S16384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Proof.ProjValue.lean ====
module

public import proofs.«01_k».proof.Proof.Gen.ProjIdeal.Value
public import proofs.«01_k».proof.Proof.Gen.ProjRefIdeal.Read
public import Idealize.ShloMosaic.Lib.Pipeline.ValueKit
public import Idealize.ShloMosaic.Lib.Pointwise

/-! What the input projection's call leaves in its four results, at the extended reals: the matching columns of
    the reference's product of the normalised rows with the projection's weights. -/

@[expose] public section

set_option maxRecDepth 16384

noncomputable section

namespace Cert.Proof.ProjV

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

theorem tlt (t : Fin cfg0.N) : t.val < 64 := lt_of_lt_of_eq t.isLt (by decide +kernel)

/-- A row of the input's block. -/
theorem blk0 (c : Dev nD) (t : Fin cfg0.N) (p : Fin 256) (x : Fin 1024) (a : Fin 4) (b : Fin 4096) (h : a.val * 4096 + b.val = t.val * 256 + p.val) :
    iblk m c 0 t (ix2 p x) = m ((c : Thread nD τ).loc main_arg0) (ix3 a b x) := by
  have ht := tlt t
  blk_simp [iblk]
  entry_read
  pointwise
  blk_ext [idx t]

theorem blk1 (c : Dev nD) (t : Fin cfg0.N) (x : Fin 1024) :
    iblk m c 1 t (ix2 0 x) = m ((c : Thread nD τ).loc main_arg1) (ix2 0 x) := by
  blk_simp [iblk]
  entry_read
  pointwise
  blk_ext [idx t]

set_option maxHeartbeats 1000000 in
/-- The padded weights as the call finds them. -/
theorem w_eq (c : Dev nD) : V m c main_v7 = truncf (F := Ideal) .bf16 (concatenate S1024x4480 1 [⟨S1024x1304, extractStridedSlice S1024x1304 ![0, 0] (shapeCast S1024x4376 (m ((c : Thread nD τ).loc main_arg2)) shapeCasts_S1x1024x4376_S1024x4376) slices_S1024x4376_S1024x1304_0_0⟩, ⟨S1024x104, broadcastInDim S1024x104 ![] bcast_S_S1024x104 (constant (F := Ideal) S_ .f32 0x00000000#32)⟩, ⟨S1024x3072, extractStridedSlice S1024x3072 ![0, 1304] (shapeCast S1024x4376 (m ((c : Thread nD τ).loc main_arg2)) shapeCasts_S1x1024x4376_S1024x4376) slices_S1024x4376_S1024x3072_0_1304⟩] concatenates_S1024x1304_S1024x104_S1024x3072_S1024x4480_d1) bitsLt_bf16_f32 := by
  unfold V
  after_results
  all_goals first | rfl | trace_state

/-- The padded weights: the first 1304 columns, 104 zero columns, the rest. -/
theorem w_at (A : FVec Ideal S1x1024x4376 .f32) (x : Fin 1024) (n : Fin 4480) :
   truncf (F := Ideal) .bf16 (concatenate S1024x4480 1 [⟨S1024x1304, extractStridedSlice S1024x1304 ![0, 0] (shapeCast S1024x4376 A shapeCasts_S1x1024x4376_S1024x4376) slices_S1024x4376_S1024x1304_0_0⟩, ⟨S1024x104, broadcastInDim S1024x104 ![] bcast_S_S1024x104 (constant (F := Ideal) S_ .f32 0x00000000#32)⟩, ⟨S1024x3072, extractStridedSlice S1024x3072 ![0, 1304] (shapeCast S1024x4376 A shapeCasts_S1x1024x4376_S1024x4376) slices_S1024x4376_S1024x3072_0_1304⟩] concatenates_S1024x1304_S1024x104_S1024x3072_S1024x4480_d1) bitsLt_bf16_f32 (ix2 x n)
    = if h : n.val < 1304 then A (ix3 0 x ⟨n.val, by omega⟩)
      else if h' : n.val < 1408 then (0 : EReal) else A (ix3 0 x ⟨n.val - 104, by omega⟩) := by
  pointwise
  by_cases h1 : n.val < 1304
  · rw [dif_pos h1, dif_pos h1]
  · rw [dif_neg h1, dif_neg h1]
    by_cases h2 : n.val < 1408
    · rw [dif_pos h2, dif_pos (by omega)]
    · rw [dif_neg h2, dif_neg (by omega)]
      exact congrArg (fun q => A (ix3 0 x q)) (Fin.ext (by show 1304 + (n.val - 1304 - 104) = n.val - 104; omega))

theorem blk2 (c : Dev nD) (t : Fin cfg0.N) (x : Fin 1024) (n : Fin 4480) (A : FVec Ideal S1x1024x4376 .f32)
    (hA : A = m ((c : Thread nD τ).loc main_arg2)) :
    (iblk m c 2 t (ix2 x n) : EReal) = if h : n.val < 1304 then A (ix3 0 x ⟨n.val, by omega⟩)
      else if h' : n.val < 1408 then (0 : EReal) else A (ix3 0 x ⟨n.val - 104, by omega⟩) := by
  subst hA
  refine Eq.trans ?_ (w_at _ x n)
  rw [← w_eq m c]
  blk_simp [iblk]
  blk_ext [idx t]

open Cert.ProjRefIdeal.Read in
/-- What point `t` stores for this result is the reference's array where the block sits. -/
theorem point3 (c : Dev nD) (t : Fin cfg0.N) (y0 : Fin 256) (y1 : Fin 1280) (i0 : Fin 16384) (i1 : Fin 1280)
    (h0 : i0.val = t.val * 256 + y0.val) (h1 : i1.val = y1.val) :
    (k0_pay3 (iblk m c 0 t) (iblk m c 1 t) (View.ld (iblk m c 2 t) r0_2) (ix2 y0 y1) : EReal)
      = val_main_v20 (F := Ideal) (m ((c : Thread nD τ).loc main_arg0)) (m ((c : Thread nD τ).loc main_arg1)) (m ((c : Thread nD τ).loc main_arg2))
          (ix2 i0 i1) := by
  have e0 : ∀ x, iblk m c 0 t (ix2 y0 x) = m ((c : Thread nD τ).loc main_arg0) (ix3 ⟨i0.val / 4096, by omega⟩ ⟨i0.val % 4096, by omega⟩ x) :=
    fun x => blk0 m c t y0 x _ _ (by show i0.val / 4096 * 4096 + i0.val % 4096 = _; omega)
  have e1 : ∀ x, iblk m c 1 t (ix2 0 x) = m ((c : Thread nD τ).loc main_arg1) (ix2 0 x) := fun x => blk1 m c t x
  pointwise [k0_pay3, k0_pay2, val_main_v0,val_main_v1,val_main_cst,val_main_v2,val_main_v3,val_main_cst_0,val_main_v4,val_main_v5,val_main_cst_1,val_main_v6,val_main_v7,val_main_v8,val_main_v9,val_main_v10,val_main_v11,val_main_v12,val_main_v13,val_main_v14,val_main_v15,val_main_v16, val_main_v20]
  refine Finset.sum_congr rfl fun x _ => ?_
  simp only [e0, e1]
  refine congrArg (HMul.hMul (α := EReal) (β := EReal) _) ?_
  refine (blk2 m c t x _ _ rfl).trans ?_
  rw [dif_pos (by first | (show y1.val < 1304; omega) | (show 0 + y1.val < 1304; omega))]
  exact congrArg (fun q => m ((c : Thread nD τ).loc main_arg2) (ix3 0 x q)) (Fin.ext (by first | (show y1.val = i1.val; omega) | (show 0 + y1.val = 0 + i1.val; omega)))

/-- The result array after the run. -/
theorem final3 (c : Dev nD) : (dats m 0 c).arrAt 3 (cfgs 0).N
    = Cert.ProjRefIdeal.Read.val_main_v20 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨y0, y1, rfl⟩ : ∃ (a : Fin 256) (b : Fin 1280), y = ix2 a b := ⟨y 0, y 1, eq_ix2 (n0 := 256) (n1 := 1280) y⟩
  refine (point3 m c t y0 y1 _ _ ?_ ?_).trans (congrArg (Cert.ProjRefIdeal.Read.val_main_v20 (F := Ideal) (m ((c : Thread nD τ).loc main_arg0)) (m ((c : Thread nD τ).loc main_arg1)) (m ((c : Thread nD τ).loc main_arg2))) (eq_ix2 _).symm)
  · blk_simp [idx t]
  · blk_simp [idx t]

open Cert.ProjRefIdeal.Read in
/-- What point `t` stores for this result is the reference's array where the block sits. -/
theorem point4 (c : Dev nD) (t : Fin cfg0.N) (y0 : Fin 256) (y1 : Fin 128) (i0 : Fin 16384) (i1 : Fin 128)
    (h0 : i0.val = t.val * 256 + y0.val) (h1 : i1.val = y1.val) :
    (k0_pay4 (iblk m c 0 t) (iblk m c 1 t) (View.ld (iblk m c 2 t) r0_4) (ix2 y0 y1) : EReal)
      = val_main_v19 (F := Ideal) (m ((c : Thread nD τ).loc main_arg0)) (m ((c : Thread nD τ).loc main_arg1)) (m ((c : Thread nD τ).loc main_arg2))
          (ix2 i0 i1) := by
  have e0 : ∀ x, iblk m c 0 t (ix2 y0 x) = m ((c : Thread nD τ).loc main_arg0) (ix3 ⟨i0.val / 4096, by omega⟩ ⟨i0.val % 4096, by omega⟩ x) :=
    fun x => blk0 m c t y0 x _ _ (by show i0.val / 4096 * 4096 + i0.val % 4096 = _; omega)
  have e1 : ∀ x, iblk m c 1 t (ix2 0 x) = m ((c : Thread nD τ).loc main_arg1) (ix2 0 x) := fun x => blk1 m c t x
  pointwise [k0_pay4, k0_pay2, val_main_v0,val_main_v1,val_main_cst,val_main_v2,val_main_v3,val_main_cst_0,val_main_v4,val_main_v5,val_main_cst_1,val_main_v6,val_main_v7,val_main_v8,val_main_v9,val_main_v10,val_main_v11,val_main_v12,val_main_v13,val_main_v14,val_main_v15,val_main_v16, val_main_v17, val_main_cst_2, val_main_v18, val_main_v19]
  by_cases hc : i1.val < 24
  · rw [dif_pos hc]
    refine Finset.sum_congr rfl fun x _ => ?_
    simp only [e0, e1]
    refine congrArg (HMul.hMul (α := EReal) (β := EReal) _) ?_
    refine (blk2 m c t x _ _ rfl).trans ?_
    rw [dif_pos (by show 1280 + y1.val < 1304; omega)]
    exact congrArg (fun q => m ((c : Thread nD τ).loc main_arg2) (ix3 0 x q)) (Fin.ext (by show 1280 + y1.val = 1280 + i1.val; omega))
  · rw [dif_neg hc]
    refine Finset.sum_eq_zero fun x _ => ?_
    refine (congrArg (HMul.hMul (α := EReal) (β := EReal) _) (blk2 m c t x _ _ rfl)).trans ?_
    rw [dif_neg (by show ¬ 1280 + y1.val < 1304; omega), dif_pos (by show 1280 + y1.val < 1408; omega)]
    exact mul_zero _

/-- The result array after the run. -/
theorem final4 (c : Dev nD) : (dats m 0 c).arrAt 4 (cfgs 0).N
    = Cert.ProjRefIdeal.Read.val_main_v19 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  obtain ⟨y0, y1, rfl⟩ : ∃ (a : Fin 256) (b : Fin 128), y = ix2 a b := ⟨y 0, y 1, eq_ix2 (n0 := 256) (n1 := 128) y⟩
  refine (point4 m c t y0 y1 _ _ ?_ ?_).trans (congrArg (Cert.ProjRefIdeal.Read.val_main_v19 (F := Ideal) (m ((c : Thread nD τ).loc main_arg0)) (m ((c : Thread nD τ).loc main_arg1)) (m ((c : Thread nD τ).loc main_arg2))) (eq_ix2 _).symm)
  · blk_simp [idx t]
  · blk_simp [idx t]

open Cert.ProjRefIdeal.Read in
/-- What point `t` stores for this result is the reference's array where the block sits. -/
theorem point5 (c : Dev nD) (t : Fin cfg0.N) (y0 : Fin 256) (y1 : Fin 1024) (i0 : Fin 16384) (i1 : Fin 1024)
    (h0 : i0.val = t.val * 256 + y0.val) (h1 : i1.val = y1.val) :
    (k0_pay5 (iblk m c 0 t) (iblk m c 1 t) (View.ld (iblk m c 2 t) r0_6) (ix2 y0 y1) : EReal)
      = val_main_v21 (F := Ideal) (m ((c : Thread nD τ).loc main_arg0)) (m ((c : Thread nD τ).loc main_arg1)) (m ((c : Thread nD τ).loc main_arg2))
          (ix2 i0 i1) := by
  have e0 : ∀ x, iblk m c 0 t (ix2 y0 x) = m ((c : Thread nD τ).loc main_arg0) (ix3 ⟨i0.val / 4096, by omega⟩ ⟨i0.val % 4096, by omega⟩ x) :=
    fun x => blk0 m c t y0 x _ _ (by show i0.val / 4096 * 4096 + i0.val % 4096 = _; omega)
  have e1 : ∀ x, iblk m c 1 t (ix2 0 x) = m ((c : Thread nD τ).loc main_arg1) (ix2 0 x) := fun x => blk1 m c t x
  pointwise [k0_pay5, k0_pay2, val_main_v0,val_main_v1,val_main_cst,val_main_v2,val_main_v3,val_main_cst_0,val_main_v4,val_main_v5,val_main_cst_1,val_main_v6,val_main_v7,val_main_v8,val_main_v9,val_main_v10,val_main_v11,val_main_v12,val_main_v13,val_main_v14,val_main_v15,val_main_v16, val_main_v21]
  refine Finset.sum_congr rfl fun x _ => ?_
  simp only [e0, e1]
  refine congrArg (HMul.hMul (α := EReal) (β := EReal) _) ?_
  refine (blk2 m c t x _ _ rfl).trans ?_
  rw [dif_neg (by show ¬ 1408 + y1.val < 1304; omega), dif_neg (by show ¬ 1408 + y1.val < 1408; omega)]
  exact congrArg (fun q => m ((c : Thread nD τ).loc main_arg2) (ix3 0 x q)) (Fin.ext (by show 1408 + y1.val - 104 = 1304 + i1.val; omega))

/-- The result array after the run. -/
theorem final5 (c : Dev nD) : (dats m 0 c).arrAt 5 (cfgs 0).N
    = Cert.ProjRefIdeal.Read.val_main_v21 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  obtain ⟨y0, y1, rfl⟩ : ∃ (a : Fin 256) (b : Fin 1024), y = ix2 a b := ⟨y 0, y 1, eq_ix2 (n0 := 256) (n1 := 1024) y⟩
  refine (point5 m c t y0 y1 _ _ ?_ ?_).trans (congrArg (Cert.ProjRefIdeal.Read.val_main_v21 (F := Ideal) (m ((c : Thread nD τ).loc main_arg0)) (m ((c : Thread nD τ).loc main_arg1)) (m ((c : Thread nD τ).loc main_arg2))) (eq_ix2 _).symm)
  · blk_simp [idx t]
  · blk_simp [idx t]

open Cert.ProjRefIdeal.Read in
/-- What point `t` stores for this result is the reference's array where the block sits. -/
theorem point6 (c : Dev nD) (t : Fin cfg0.N) (y0 : Fin 256) (y1 : Fin 2048) (i0 : Fin 16384) (i1 : Fin 2048)
    (h0 : i0.val = t.val * 256 + y0.val) (h1 : i1.val = y1.val) :
    (k0_pay1 (k0_pay2 (iblk m c 0 t) (iblk m c 1 t)) (k0_pay6 (View.ld (iblk m c 2 t) r0_7)) (constant S256x2048 .f32 0x00000000#32) (ix2 y0 y1) : EReal)
      = val_main_v22 (F := Ideal) (m ((c : Thread nD τ).loc main_arg0)) (m ((c : Thread nD τ).loc main_arg1)) (m ((c : Thread nD τ).loc main_arg2))
          (ix2 i0 i1) := by
  have e0 : ∀ x, iblk m c 0 t (ix2 y0 x) = m ((c : Thread nD τ).loc main_arg0) (ix3 ⟨i0.val / 4096, by omega⟩ ⟨i0.val % 4096, by omega⟩ x) :=
    fun x => blk0 m c t y0 x _ _ (by show i0.val / 4096 * 4096 + i0.val % 4096 = _; omega)
  have e1 : ∀ x, iblk m c 1 t (ix2 0 x) = m ((c : Thread nD τ).loc main_arg1) (ix2 0 x) := fun x => blk1 m c t x
  pointwise [k0_pay1, k0_pay2, k0_pay6, val_main_v0,val_main_v1,val_main_cst,val_main_v2,val_main_v3,val_main_cst_0,val_main_v4,val_main_v5,val_main_cst_1,val_main_v6,val_main_v7,val_main_v8,val_main_v9,val_main_v10,val_main_v11,val_main_v12,val_main_v13,val_main_v14,val_main_v15,val_main_v16, val_main_v22]
  refine Finset.sum_congr rfl fun x _ => ?_
  simp only [e0, e1]
  refine congrArg (HMul.hMul (α := EReal) (β := EReal) _) ?_
  refine (blk2 m c t x _ _ rfl).trans ?_
  rw [dif_neg (by show ¬ 2432 + y1.val < 1304; omega), dif_neg (by show ¬ 2432 + y1.val < 1408; omega)]
  exact congrArg (fun q => m ((c : Thread nD τ).loc main_arg2) (ix3 0 x q)) (Fin.ext (by show 2432 + y1.val - 104 = 2328 + i1.val; omega))

/-- The result array after the run. -/
theorem final6 (c : Dev nD) : (dats m 0 c).arrAt 6 (cfgs 0).N
    = Cert.ProjRefIdeal.Read.val_main_v22 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  obtain ⟨y0, y1, rfl⟩ : ∃ (a : Fin 256) (b : Fin 2048), y = ix2 a b := ⟨y 0, y 1, eq_ix2 (n0 := 256) (n1 := 2048) y⟩
  refine (point6 m c t y0 y1 _ _ ?_ ?_).trans (congrArg (Cert.ProjRefIdeal.Read.val_main_v22 (F := Ideal) (m ((c : Thread nD τ).loc main_arg0)) (m ((c : Thread nD τ).loc main_arg1)) (m ((c : Thread nD τ).loc main_arg2))) (eq_ix2 _).symm)
  · blk_simp [idx t]
  · blk_simp [idx t]

end Cert.Proof.ProjV

end
-- ==== Proof.FinalValue.lean ====
module

public import proofs.«01_k».proof.Proof.Gen.FinalIdeal.Value
public import proofs.«01_k».proof.Proof.Gen.FinalRefIdeal.Read
public import Idealize.ShloMosaic.Lib.Pipeline.ValueKit
public import Idealize.ShloMosaic.Lib.Pointwise

/-! What the last call leaves in the layer's result, at the extended reals: the normalised sum of the residual stream
    and the channel mixer's output. -/

@[expose] public section

set_option maxRecDepth 16384

noncomputable section

namespace Cert.Proof.FinalV

open Cert.FinalIdeal Cert.FinalIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, t.val] ∧ win0_2.index t = ![0, 0]
    ∧ win0_3.index t = ![t.val, 0] :=
  (by decide +kernel : ∀ t : Fin grid0.N, _)

theorem tlt (t : Fin cfg0.N) : t.val < 32 := lt_of_lt_of_eq t.isLt (by decide +kernel)

/-- A row of the residual stream's block. -/
theorem blk0 (c : Dev nD) (t : Fin cfg0.N) (p : Fin 512) (x : Fin 1024) (a : Fin 16384) (h : a.val = t.val * 512 + p.val) :
    iblk m c 0 t (ix2 p x) = m ((c : Thread nD τ).loc main_arg0) (ix2 a x) := by
  have ht := tlt t
  blk_simp [iblk]
  entry_read
  blk_ext [idx t]

/-- A column of the channel mixer's block. -/
theorem blk1 (c : Dev nD) (t : Fin cfg0.N) (p : Fin 512) (x : Fin 1024) (a : Fin 16384) (h : a.val = t.val * 512 + p.val) :
    iblk m c 1 t (ix2 x p) = m ((c : Thread nD τ).loc main_arg1) (ix2 x a) := by
  have ht := tlt t
  blk_simp [iblk]
  entry_read
  blk_ext [idx t]

/-- The gain. -/
theorem blk2 (c : Dev nD) (t : Fin cfg0.N) (x : Fin 1024) :
    iblk m c 2 t (ix2 0 x) = m ((c : Thread nD τ).loc main_arg2) (ix1 x) := by
  blk_simp [iblk]
  entry_read
  pointwise
  blk_ext [idx t]

open Cert.FinalRefIdeal.Read in
/-- What point `t` stores is the reference's array where the block sits. -/
theorem point3 (c : Dev nD) (t : Fin cfg0.N) (y0 : Fin 512) (y1 : Fin 1024) (i0 : Fin 16384) (i1 : Fin 1024)
    (h0 : i0.val = t.val * 512 + y0.val) (h1 : i1.val = y1.val) :
    (k0_pay1 (iblk m c 0 t) (iblk m c 1 t) (iblk m c 2 t) (ix2 y0 y1) : EReal)
      = val_main_v14 (F := Ideal) (m ((c : Thread nD τ).loc main_arg0)) (m ((c : Thread nD τ).loc main_arg1)) (m ((c : Thread nD τ).loc main_arg2))
          (ix2 i0 i1) := by
  obtain rfl : i1 = y1 := Fin.ext h1
  have e0 : ∀ x, iblk m c 0 t (ix2 y0 x) = m ((c : Thread nD τ).loc main_arg0) (ix2 i0 x) := fun x => blk0 m c t y0 x i0 h0
  have e1 : ∀ x, iblk m c 1 t (ix2 x y0) = m ((c : Thread nD τ).loc main_arg1) (ix2 x i0) := fun x => blk1 m c t y0 x i0 h0
  have e2 := blk2 m c t i1
  pointwise [k0_pay1, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  simp only [e0, e1, e2]

/-- The result array after the run. -/
theorem final3 (c : Dev nD) : (dats m 0 c).arrAt 3 (cfgs 0).N
    = Cert.FinalRefIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨y0, y1, rfl⟩ : ∃ (a : Fin 512) (b : Fin 1024), y = ix2 a b := ⟨y 0, y 1, eq_ix2 (n0 := 512) (n1 := 1024) y⟩
  refine (point3 m c t y0 y1 _ _ ?_ ?_).trans (congrArg (Cert.FinalRefIdeal.Read.val_main_v14 (F := Ideal) (m ((c : Thread nD τ).loc main_arg0)) (m ((c : Thread nD τ).loc main_arg1)) (m ((c : Thread nD τ).loc main_arg2))) (eq_ix2 _).symm)
  · blk_simp [idx t]
  · blk_simp [idx t]

end Cert.Proof.FinalV

end
-- ==== Proof.MixBlocks.lean ====
module

public import proofs.«01_k».proof.Proof.Gen.MixIdeal.Value
public import proofs.«01_k».proof.Proof.Gen.MixRefIdeal.Read
public import Idealize.ShloMosaic.Lib.Pipeline.ValueKit
public import Idealize.ShloMosaic.Lib.Pipeline.ReadBack
public import Idealize.ShloMosaic.Lib.Pointwise

/-! What the mixers' merge leaves in its result, at the extended reals. -/

@[expose] public section

set_option maxRecDepth 16384

noncomputable section

namespace Cert.Proof.MixV

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

theorem idxA : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val * 8 - 1, 0] ∧ win0_6.index t = ![t.val, 0]
    ∧ win0_7.index t = ![t.val, 0] ∧ win0_16.index t = ![t.val, 0] :=
  (by decide +kernel : ∀ t : Fin grid0.N, _)

theorem idxB : ∀ t : Fin cfg0.N, win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

theorem tlt (t : Fin cfg0.N) : t.val < 64 := lt_of_lt_of_eq t.isLt (by decide +kernel)

/-- A row of window 0's block. -/
theorem blk0 (c : Dev nD) (t : Fin cfg0.N) (p : Fin 256) (x : Fin 512) (a : Fin 16384) (h : a.val = t.val * 256 + p.val) :
    iblk m c 0 t (ix2 p x) = m ((c : Thread nD τ).loc main_arg0) (ix2 a x) := by
  have ht := tlt t
  blk_simp [iblk]
  entry_read
  blk_ext [idxA t]

/-- A row of window 1's block. -/
theorem blk1 (c : Dev nD) (t : Fin cfg0.N) (p : Fin 256) (x : Fin 512) (a : Fin 16384) (h : a.val = t.val * 256 + p.val) :
    iblk m c 1 t (ix2 p x) = m ((c : Thread nD τ).loc main_arg1) (ix2 a x) := by
  have ht := tlt t
  blk_simp [iblk]
  entry_read
  blk_ext [idxA t]

/-- A row of window 2's block. -/
theorem blk2 (c : Dev nD) (t : Fin cfg0.N) (p : Fin 256) (x : Fin 512) (a : Fin 16384) (h : a.val = t.val * 256 + p.val) :
    iblk m c 2 t (ix2 p x) = m ((c : Thread nD τ).loc main_arg2) (ix2 a x) := by
  have ht := tlt t
  blk_simp [iblk]
  entry_read
  blk_ext [idxA t]

/-- A row of window 3's block. -/
theorem blk3 (c : Dev nD) (t : Fin cfg0.N) (p : Fin 256) (x : Fin 128) (a : Fin 16384) (h : a.val = t.val * 256 + p.val) :
    iblk m c 3 t (ix2 p x) = m ((c : Thread nD τ).loc main_arg3) (ix2 a x) := by
  have ht := tlt t
  blk_simp [iblk]
  entry_read
  blk_ext [idxA t]

/-- A row of window 4's block. -/
theorem blk4 (c : Dev nD) (t : Fin cfg0.N) (p : Fin 256) (x : Fin 1024) (a : Fin 16384) (h : a.val = t.val * 256 + p.val) :
    iblk m c 4 t (ix2 p x) = m ((c : Thread nD τ).loc main_arg4) (ix2 a x) := by
  have ht := tlt t
  blk_simp [iblk]
  entry_read
  blk_ext [idxA t]

/-- A row of window 6's block. -/
theorem blk6 (c : Dev nD) (t : Fin cfg0.N) (p : Fin 256) (x : Fin 2048) (a : Fin 16384) (h : a.val = t.val * 256 + p.val) :
    iblk m c 6 t (ix2 p x) = m ((c : Thread nD τ).loc main_arg5) (ix2 a x) := by
  have ht := tlt t
  blk_simp [iblk]
  entry_read
  blk_ext [idxA t]

/-- A row of window 7's block. -/
theorem blk7 (c : Dev nD) (t : Fin cfg0.N) (p : Fin 256) (x : Fin 1024) (a : Fin 16384) (h : a.val = t.val * 256 + p.val) :
    iblk m c 7 t (ix2 p x) = m ((c : Thread nD τ).loc main_arg6) (ix2 a x) := by
  have ht := tlt t
  blk_simp [iblk]
  entry_read
  blk_ext [idxA t]

/-- A row of the halo's block. -/
theorem blk5 (c : Dev nD) (t : Fin cfg0.N) (p : Fin 32) (x : Fin 1024) (a : Fin 16384) (h0 : 0 < t.val) (h : a.val + 32 = t.val * 256 + p.val) :
    iblk m c 5 t (ix2 p x) = m ((c : Thread nD τ).loc main_arg4) (ix2 a x) := by
  have ht := tlt t
  blk_simp [iblk]
  entry_read
  blk_ext [idxA t]

theorem wt512 (A : FVec Ideal S1x512x1024 .f32) (p : Fin 512) (x : Fin 1024) :
    (truncf (F := Ideal) .bf16 (shapeCast S512x1024 A shapeCasts_S1x512x1024_S512x1024) bitsLt_bf16_f32 (ix2 p x) : EReal) = A (ix3 0 p x) := by
  pointwise

theorem wt1024 (A : FVec Ideal S1x1024x1024 .f32) (p : Fin 1024) (x : Fin 1024) :
    (truncf (F := Ideal) .bf16 (shapeCast S1024x1024 A shapeCasts_S1x1024x1024_S1024x1024) bitsLt_bf16_f32 (ix2 p x) : EReal) = A (ix3 0 p x) := by
  pointwise

set_option maxHeartbeats 1000000 in
theorem w20 (c : Dev nD) : V m c main_v20 = truncf (F := Ideal) .bf16 (shapeCast S512x1024 (m ((c : Thread nD τ).loc main_arg7)) shapeCasts_S1x512x1024_S512x1024) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  all_goals rfl

/-- Window 9's weights. -/
theorem blk9 (c : Dev nD) (t : Fin cfg0.N) (p : Fin 512) (x : Fin 1024) :
    iblk m c 9 t (ix2 p x) = m ((c : Thread nD τ).loc main_arg7) (ix3 0 p x) := by
  have e := congrFun (w20 m c) (ix2 p x)
  refine Eq.trans ?_ (e.trans ?_)
  · have hw : win0_9.index t = ![0, 0] := (idxB t).2.1
    blk_simp [iblk]
    blk_ext [hw]
  · exact wt512 _ p x

set_option maxHeartbeats 1000000 in
theorem w30 (c : Dev nD) : V m c main_v30 = truncf (F := Ideal) .bf16 (shapeCast S512x1024 (m ((c : Thread nD τ).loc main_arg12)) shapeCasts_S1x512x1024_S512x1024) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  all_goals rfl

/-- Window 14's weights. -/
theorem blk14 (c : Dev nD) (t : Fin cfg0.N) (p : Fin 512) (x : Fin 1024) :
    iblk m c 14 t (ix2 p x) = m ((c : Thread nD τ).loc main_arg12) (ix3 0 p x) := by
  have e := congrFun (w30 m c) (ix2 p x)
  refine Eq.trans ?_ (e.trans ?_)
  · have hw : win0_14.index t = ![0, 0] := (idxB t).2.2.2.2.2.2.1
    blk_simp [iblk]
    blk_ext [hw]
  · exact wt512 _ p x

set_option maxHeartbeats 1000000 in
theorem w32 (c : Dev nD) : V m c main_v32 = truncf (F := Ideal) .bf16 (shapeCast S1024x1024 (m ((c : Thread nD τ).loc main_arg13)) shapeCasts_S1x1024x1024_S1024x1024) bitsLt_bf16_f32 := by
  unfold V
  simp only [hostOps0, hostOps0_1, hostOps0_2, hostOps0_3, hostOps0_4, hostOps0_5, hostOps0_6, List.flatten_cons, List.flatten_nil, List.append_nil, List.cons_append, List.nil_append]
  after_results
  all_goals rfl

/-- Window 15's weights. -/
theorem blk15 (c : Dev nD) (t : Fin cfg0.N) (p : Fin 1024) (x : Fin 1024) :
    iblk m c 15 t (ix2 p x) = m ((c : Thread nD τ).loc main_arg13) (ix3 0 p x) := by
  have e := congrFun (w32 m c) (ix2 p x)
  refine Eq.trans ?_ (e.trans ?_)
  · have hw : win0_15.index t = ![0, 0] := (idxB t).2.2.2.2.2.2.2
    blk_simp [iblk]
    blk_ext [hw]
  · exact wt1024 _ p x

set_option maxHeartbeats 1000000 in
theorem w24 (c : Dev nD) : V m c main_v24 = shapeCast S1x512 (shapeCast S512 (m ((c : Thread nD τ).loc main_arg9)) shapeCasts_S1x512_S512) shapeCasts_S512_S1x512 := by
  unfold V
  simp only [hostOps0, hostOps0_1, hostOps0_2, hostOps0_3, hostOps0_4, hostOps0_5, hostOps0_6, List.flatten_cons, List.flatten_nil, List.append_nil, List.cons_append, List.nil_append]
  after_results
  all_goals rfl

/-- Window 11's row. -/
theorem blk11 (c : Dev nD) (t : Fin cfg0.N) (x : Fin 512) :
    iblk m c 11 t (ix2 0 x) = m ((c : Thread nD τ).loc main_arg9) (ix2 0 x) := by
  have e := congrFun (w24 m c) (ix2 0 x)
  refine Eq.trans ?_ (e.trans ?_)
  · have hw : win0_11.index t = ![0, 0] := (idxB t).2.2.2.1
    blk_simp [iblk]
    blk_ext [hw]
  · pointwise

set_option maxHeartbeats 1000000 in
theorem w26 (c : Dev nD) : V m c main_v26 = shapeCast S1x512 (shapeCast S512 (m ((c : Thread nD τ).loc main_arg10)) shapeCasts_S1x512_S512) shapeCasts_S512_S1x512 := by
  unfold V
  simp only [hostOps0, hostOps0_1, hostOps0_2, hostOps0_3, hostOps0_4, hostOps0_5, hostOps0_6, List.flatten_cons, List.flatten_nil, List.append_nil, List.cons_append, List.nil_append]
  after_results
  all_goals rfl

/-- Window 12's row. -/
theorem blk12 (c : Dev nD) (t : Fin cfg0.N) (x : Fin 512) :
    iblk m c 12 t (ix2 0 x) = m ((c : Thread nD τ).loc main_arg10) (ix2 0 x) := by
  have e := congrFun (w26 m c) (ix2 0 x)
  refine Eq.trans ?_ (e.trans ?_)
  · have hw : win0_12.index t = ![0, 0] := (idxB t).2.2.2.2.1
    blk_simp [iblk]
    blk_ext [hw]
  · pointwise

set_option maxHeartbeats 1000000 in
theorem w28 (c : Dev nD) : V m c main_v28 = shapeCast S1x512 (shapeCast S512 (m ((c : Thread nD τ).loc main_arg11)) shapeCasts_S1x512_S512) shapeCasts_S512_S1x512 := by
  unfold V
  simp only [hostOps0, hostOps0_1, hostOps0_2, hostOps0_3, hostOps0_4, hostOps0_5, hostOps0_6, List.flatten_cons, List.flatten_nil, List.append_nil, List.cons_append, List.nil_append]
  after_results
  all_goals rfl

/-- Window 13's row. -/
theorem blk13 (c : Dev nD) (t : Fin cfg0.N) (x : Fin 512) :
    iblk m c 13 t (ix2 0 x) = m ((c : Thread nD τ).loc main_arg11) (ix2 0 x) := by
  have e := congrFun (w28 m c) (ix2 0 x)
  refine Eq.trans ?_ (e.trans ?_)
  · have hw : win0_13.index t = ![0, 0] := (idxB t).2.2.2.2.2.1
    blk_simp [iblk]
    blk_ext [hw]
  · pointwise

set_option maxHeartbeats 1000000 in
theorem w22 (c : Dev nD) : V m c main_v22 = shapeCast S31x512 (shapeCast S31x1x512 (m ((c : Thread nD τ).loc main_arg8)) shapeCasts_S1x31x1x512_S31x1x512) shapeCasts_S31x1x512_S31x512 := by
  unfold V
  simp only [hostOps0, hostOps0_1, hostOps0_2, hostOps0_3, hostOps0_4, hostOps0_5, hostOps0_6, List.flatten_cons, List.flatten_nil, List.append_nil, List.cons_append, List.nil_append]
  after_results
  all_goals rfl

theorem wt10 (A : FVec Ideal S1x31x1x512 .f32) (p : Fin 31) (x : Fin 512) :
    (shapeCast S31x512 (shapeCast S31x1x512 A shapeCasts_S1x31x1x512_S31x1x512) shapeCasts_S31x1x512_S31x512 (ix2 p x) : EReal) = A (ix4 0 p 0 x) := by
  pointwise

/-- The convolution's weights. -/
theorem blk10 (c : Dev nD) (t : Fin cfg0.N) (k : Fin 31) (x : Fin 512) :
    iblk m c 10 t (ix2 k x) = m ((c : Thread nD τ).loc main_arg8) (ix4 0 k 0 x) := by
  have e := congrFun (w22 m c) (ix2 k x)
  refine Eq.trans ?_ (e.trans ?_)
  · have hw : win0_10.index t = ![0, 0] := (idxB t).2.2.1
    blk_simp [iblk]
    blk_ext [hw]
  · exact wt10 _ k x

theorem gate_bits : ∀ (k : Fin 128) (j : Fin 24), IntOp.andi (IntOp.cmpi CmpIPredicate.slt (BitVec.ofNat 32 k.val) 24#32)
    (IntOp.cmpi CmpIPredicate.eq (BitVec.ofNat 32 k.val) (BitVec.ofNat 32 j.val)) = if k.val = j.val then 1#1 else 0#1 := by
  decide +kernel

theorem gate_bit (k : Fin 128) (j : ℕ) (hj : j < 24) (b : BitVec 32) (hb : b = BitVec.ofNat 32 j) :
    (FloatOps.uitofp (F := Ideal) FTy.f32 (IntOp.andi (IntOp.cmpi CmpIPredicate.slt (BitVec.ofNat 32 k.val) 24#32)
      (IntOp.cmpi CmpIPredicate.eq (BitVec.ofNat 32 k.val) b)) : EReal) = if k.val = j then 1 else 0 := by
  subst hb
  rw [gate_bits k ⟨j, hj⟩]
  show (FloatOps.uitofp (F := Ideal) FTy.f32 (if k.val = j then 1#1 else 0#1) : EReal) = _
  by_cases h : k.val = j
  · simp only [h, if_true]; simp [FloatOps.uitofp]
  · simp only [h, if_false]; simp [FloatOps.uitofp]

set_option maxHeartbeats 1000000 in
theorem w18 (c : Dev nD) (k : Fin 128) (x : Fin 1536) : (show FVec Ideal S128x1536 .bf16 from V m c main_v18) (ix2 k x) = (if k.val = (x.val / 512) * 8 + x.val % 512 / 64 then 1 else 0 : EReal) := by
  unfold V
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq, id]
  pointwise
  refine gate_bit k _ (by omega) _ ?_
  revert x
  decide +kernel

/-- Which gate a column of the merged branches takes. -/
theorem blk8 (c : Dev nD) (t : Fin cfg0.N) (k : Fin 128) (x : Fin 1536) :
    (show EReal from iblk m c 8 t (ix2 k x)) = if k.val = (x.val / 512) * 8 + x.val % 512 / 64 then 1 else 0 := by
  refine Eq.trans ?_ (w18 m c k x)
  have hw : win0_8.index t = ![0, 0] := (idxB t).1
  blk_simp [iblk]
  blk_ext [hw]

end Cert.Proof.MixV

end
-- ==== Proof.MixLemmas.lean ====
module

public import proofs.«01_k».proof.Proof.MixBlocks

@[expose] public section

set_option maxRecDepth 16384
set_option maxHeartbeats 1000000

noncomputable section

namespace Cert.Proof.MixV

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

/-- The rows the convolution reads: the halo's 32 rows, then the tile's. -/
def ext (H : FVec Ideal S1x32x512 .f32) (U : FVec Ideal S1x256x512 .f32) (e : ℕ) (x : Fin 512) : EReal :=
  if h : e < 32 then H (ix3 0 ⟨e, h⟩ x) else if h' : e - 32 < 256 then U (ix3 0 ⟨e - 32, h'⟩ x) else 0

/-- What the scratch's first slot holds, read through a window of `n` rows. -/
theorem slot0 {sp : Space} (v : View sig .tc sp S8x288x512 .f32) (j n : ℕ) (hjn : j + n ≤ 288)
    (H : FVec Ideal S1x32x512 .f32) (U : FVec Ideal S1x256x512 .f32) (rest : List (View.Piece (Elt Ideal) S8x288x512 .f32))
    (i1 : ∀ a, (![0, 32, 0] : Fin 3 → ℕ) a + (![1, 256, 512] : Fin 3 → ℕ) a ≤ S8x288x512.size a)
    (i2 : ∀ a, (![0, 0, 0] : Fin 3 → ℕ) a + (![1, 32, 512] : Fin 3 → ℕ) a ≤ S8x288x512.size a)
    (i3 : ∀ a, (![0, j, 0] : Fin 3 → ℕ) a + (![1, n, 512] : Fin 3 → ℕ) a ≤ S8x288x512.size a) :
    v.readCov (Val := Elt Ideal) (⟨Rect.unit ![0, 32, 0] ![1, 256, 512] i1, U⟩ :: ⟨Rect.unit ![0, 0, 0] ![1, 32, 512] i2, H⟩ :: rest)
      (Rect.unit ![0, j, 0] ![1, n, 512] i3).toLoadRect = fun i => ext H U (j + (i 1).val) ⟨(i 2).val, (i 2).isLt⟩ := by
  rw [View.readCov_eq_canon']
  funext i
  have h1 : (i 1).val < n := (i 1).isLt
  have h0 : (i 0).val < 1 := (i 0).isLt
  have h2 : (i 2).val < 512 := (i 2).isLt
  by_cases h : j + (i 1).val < 32
  · have e : (Rect.unit (s := S8x288x512) ![0, j, 0] ![1, n, 512] i3).toLoadRect.idx i
        = (Rect.unit (s := S8x288x512) ![0, 0, 0] ![1, 32, 512] i2).emb (ix3 (n0 := 1) (n1 := 32) (n2 := 512) 0 ⟨j + (i 1).val, h⟩ ⟨(i 2).val, h2⟩) := by
      funext a; apply Fin.ext; fin_cases a
      · show 0 + 1 * (i 0).val = 0 + 1 * 0; omega
      · show j + 1 * (i 1).val = 0 + 1 * (j + (i 1).val); omega
      · show 0 + 1 * (i 2).val = 0 + 1 * (i 2).val; omega
    rw [View.canon_cons_of_not_mem, e, View.canon_cons_emb]
    · simp only [ext, h, dif_pos]
    · intro hm
      have h3 := ((Rect.mem_set_unit (inb := i1)).mp hm 1).1
      have h4 : 32 ≤ j + 1 * (i 1).val := h3
      omega
  · have h' : j + (i 1).val - 32 < 256 := by omega
    have e : (Rect.unit (s := S8x288x512) ![0, j, 0] ![1, n, 512] i3).toLoadRect.idx i
        = (Rect.unit (s := S8x288x512) ![0, 32, 0] ![1, 256, 512] i1).emb (ix3 (n0 := 1) (n1 := 256) (n2 := 512) 0 ⟨j + (i 1).val - 32, h'⟩ ⟨(i 2).val, h2⟩) := by
      funext a; apply Fin.ext; fin_cases a
      · show 0 + 1 * (i 0).val = 0 + 1 * 0; omega
      · show j + 1 * (i 1).val = 32 + 1 * (j + (i 1).val - 32); omega
      · show 0 + 1 * (i 2).val = 0 + 1 * (i 2).val; omega
    rw [e, View.canon_cons_emb]
    simp only [ext, h, h', dif_pos, dif_neg, not_false_iff]

/-- What a shifted slot holds, read through a window of 256 rows. -/
theorem slotj {sp : Space} (v : View sig .tc sp S8x288x512 .f32) (s j : ℕ) (hj : j + 256 ≤ 280)
    (P : FVec Ideal S1x280x512 .f32) (rest : List (View.Piece (Elt Ideal) S8x288x512 .f32))
    (i1 : ∀ a, (![s, 0, 0] : Fin 3 → ℕ) a + (![1, 280, 512] : Fin 3 → ℕ) a ≤ S8x288x512.size a)
    (i3 : ∀ a, (![s, j, 0] : Fin 3 → ℕ) a + (![1, 256, 512] : Fin 3 → ℕ) a ≤ S8x288x512.size a) :
    v.readCov (Val := Elt Ideal) (⟨Rect.unit ![s, 0, 0] ![1, 280, 512] i1, P⟩ :: rest)
      (Rect.unit ![s, j, 0] ![1, 256, 512] i3).toLoadRect
      = fun i => P (ix3 (n0 := 1) (n1 := 280) (n2 := 512) 0 ⟨j + (i 1).val, lt_of_lt_of_le (Nat.add_lt_add_left (i 1).isLt j) hj⟩ ⟨(i 2).val, (i 2).isLt⟩) := by
  rw [View.readCov_eq_canon']
  funext i
  have h1 : (i 1).val < 256 := (i 1).isLt
  have h0 : (i 0).val < 1 := (i 0).isLt
  have h2 : (i 2).val < 512 := (i 2).isLt
  have e : (Rect.unit (s := S8x288x512) ![s, j, 0] ![1, 256, 512] i3).toLoadRect.idx i
      = (Rect.unit (s := S8x288x512) ![s, 0, 0] ![1, 280, 512] i1).emb (ix3 (n0 := 1) (n1 := 280) (n2 := 512) 0 ⟨j + (i 1).val, by omega⟩ ⟨(i 2).val, h2⟩) := by
    funext a; apply Fin.ext; fin_cases a
    · show s + 1 * (i 0).val = s + 1 * 0; omega
    · show j + 1 * (i 1).val = 0 + 1 * (j + (i 1).val); omega
    · show 0 + 1 * (i 2).val = 0 + 1 * (i 2).val; omega
  rw [e, View.canon_cons_emb]

/-- A gate, a quotient by a number at least one, is a real number. -/
theorem sig_real (x : EReal) : ∃ r : ℝ, Ideal.div 1 (1 + Ideal.exp x) = (r : EReal) := by
  induction x with
  | bot => exact ⟨1, by simp [Ideal.div]⟩
  | top => exact ⟨0, by
    have h : (1 : EReal) + ⊤ = ⊤ := EReal.coe_add_top 1
    simp [Ideal.div, h]⟩
  | coe r =>
    have h : (1 + Real.exp r) ≠ 0 := by positivity
    refine ⟨1 / (1 + Real.exp r), ?_⟩
    rw [Ideal.exp_coe, show (1 : EReal) + ((Real.exp r : ℝ) : EReal) = ((1 + Real.exp r : ℝ) : EReal) by push_cast; rfl,
      Ideal.div_coe h, one_mul]

theorem sub_self_real (x : EReal) (h : ∃ r : ℝ, x = (r : EReal)) : x - x = 0 := by
  obtain ⟨r, rfl⟩ := h
  rw [← EReal.coe_sub, sub_self]; rfl

/-- The three products with the selecting matrix leave the gate it selects. -/
theorem gsel (s w : Fin 128 → EReal) (hs : ∀ k, ∃ r : ℝ, s k = (r : EReal)) (j : Fin 128) (hw : ∀ k, w k = if k.val = j.val then 1 else 0) :
    (∑ k, s k * w k) + (∑ k, (s k - s k) * w k) + (∑ k, (s k - s k - (s k - s k)) * w k) = s j := by
  have h0 : ∀ k, s k - s k = 0 := fun k => sub_self_real _ (hs k)
  simp only [h0, zero_mul, Finset.sum_const_zero, sub_zero, add_zero]
  rw [Finset.sum_eq_single j]
  · rw [hw, if_pos rfl, mul_one]
  · intro k _ hk
    rw [hw, if_neg (fun h => hk (Fin.ext h)), mul_zero]
  · intro h; exact absurd (Finset.mem_univ j) h

theorem neg_of_sub (x : EReal) : 0 - x = -x := by rw [sub_eq_add_neg, zero_add]

/-- The attention branches, each by its gate, projected. -/
theorem nsaK (G : FVec Ideal S256x128 .f32) (W : FVec Ideal S128x1536 .bf16) (O0 O1 O2 : FVec Ideal S256x512 .f32) (N : FVec Ideal S512x1024 .bf16) (p : Fin 256) (n : Fin 1024)
    (hW : ∀ (k : Fin 128) (x : Fin 1536), (W (ix2 k x) : EReal) = if k.val = (x.val / 512) * 8 + x.val % 512 / 64 then 1 else 0) :
    (k0_pay2 (F := Ideal) G W O0 O1 O2 N (ix2 p n) : EReal)
      = ∑ x : Fin 512, (Ideal.div 1 (1 + Ideal.exp (-(G (ix2 p ⟨x.val / 64, by omega⟩)))) * O0 (ix2 p x)
          + Ideal.div 1 (1 + Ideal.exp (-(G (ix2 p ⟨8 + x.val / 64, by omega⟩)))) * O1 (ix2 p x)
          + Ideal.div 1 (1 + Ideal.exp (-(G (ix2 p ⟨16 + x.val / 64, by omega⟩)))) * O2 (ix2 p x)) * N (ix2 x n) := by
  pointwise [k0_pay2]
  refine Finset.sum_congr rfl fun x _ => ?_
  have hx := x.isLt
  have key := fun (z : Fin 1536) (j : Fin 128) (hj : j.val = (z.val / 512) * 8 + z.val % 512 / 64) =>
    gsel (fun k => Ideal.div 1 (1 + Ideal.exp (0 - G (ix2 p k)))) (fun k => W (ix2 k z)) (fun k => sig_real _) j (fun k => by rw [hW, hj])
  have k0 := key ⟨x.val, by omega⟩ ⟨x.val / 64, by omega⟩ (by show x.val / 64 = x.val / 512 * 8 + x.val % 512 / 64; omega)
  have k1 := key ⟨512 + x.val, by omega⟩ ⟨8 + x.val / 64, by omega⟩ (by show 8 + x.val / 64 = (512 + x.val) / 512 * 8 + (512 + x.val) % 512 / 64; omega)
  have k2 := key ⟨1024 + x.val, by omega⟩ ⟨16 + x.val / 64, by omega⟩ (by show 16 + x.val / 64 = (1024 + x.val) / 512 * 8 + (1024 + x.val) % 512 / 64; omega)
  simp only [neg_of_sub] at k0 k1 k2
  simp only [neg_of_sub]
  rw [k0, k1, k2]

open Cert.MixRefIdeal.Read in
theorem nsaR (x0 x1 x2 : FVec Ideal S16384x512 .f32) (x3 : FVec Ideal S16384x128 .f32) (x7 : FVec Ideal S1x512x1024 .f32) (a : Fin 16384) (n : Fin 1024) :
    (val_main_v27 (F := Ideal) x0 x1 x2 x3 x7 (ix2 a n) : EReal)
      = ∑ x : Fin 512, (Ideal.div 1 (1 + Ideal.exp (-(x3 (ix2 a ⟨x.val / 64, by omega⟩)))) * x0 (ix2 a x)
          + Ideal.div 1 (1 + Ideal.exp (-(x3 (ix2 a ⟨8 + x.val / 64, by omega⟩)))) * x1 (ix2 a x)
          + Ideal.div 1 (1 + Ideal.exp (-(x3 (ix2 a ⟨16 + x.val / 64, by omega⟩)))) * x2 (ix2 a x)) * x7 (ix3 0 x n) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0]

open Cert.MixRefIdeal.Read in
theorem refconv (x4 : FVec Ideal S16384x1024 .f32) (x8 : FVec Ideal S1x31x1x512 .f32) (x9 : FVec Ideal S1x512 .f32) (b : Fin 4) (T : Fin 4096) (x : Fin 512)
    (g : ℕ → EReal) (hg : ∀ k (h : k < 4126), (val_main_v43 (F := Ideal) x4 (ix3 b ⟨k, h⟩ x) : EReal) = g k) :
    (val_main_v264 (F := Ideal) x4 x8 x9 (ix3 b T x) : EReal) =
      0  + g (0 + T.val) * x8 (ix4 0 0 0 x) + g (1 + T.val) * x8 (ix4 0 1 0 x) + g (2 + T.val) * x8 (ix4 0 2 0 x) + g (3 + T.val) * x8 (ix4 0 3 0 x) + g (4 + T.val) * x8 (ix4 0 4 0 x) + g (5 + T.val) * x8 (ix4 0 5 0 x) + g (6 + T.val) * x8 (ix4 0 6 0 x) + g (7 + T.val) * x8 (ix4 0 7 0 x) + g (8 + T.val) * x8 (ix4 0 8 0 x) + g (9 + T.val) * x8 (ix4 0 9 0 x) + g (10 + T.val) * x8 (ix4 0 10 0 x) + g (11 + T.val) * x8 (ix4 0 11 0 x) + g (12 + T.val) * x8 (ix4 0 12 0 x) + g (13 + T.val) * x8 (ix4 0 13 0 x) + g (14 + T.val) * x8 (ix4 0 14 0 x) + g (15 + T.val) * x8 (ix4 0 15 0 x) + g (16 + T.val) * x8 (ix4 0 16 0 x) + g (17 + T.val) * x8 (ix4 0 17 0 x) + g (18 + T.val) * x8 (ix4 0 18 0 x) + g (19 + T.val) * x8 (ix4 0 19 0 x) + g (20 + T.val) * x8 (ix4 0 20 0 x) + g (21 + T.val) * x8 (ix4 0 21 0 x) + g (22 + T.val) * x8 (ix4 0 22 0 x) + g (23 + T.val) * x8 (ix4 0 23 0 x) + g (24 + T.val) * x8 (ix4 0 24 0 x) + g (25 + T.val) * x8 (ix4 0 25 0 x) + g (26 + T.val) * x8 (ix4 0 26 0 x) + g (27 + T.val) * x8 (ix4 0 27 0 x) + g (28 + T.val) * x8 (ix4 0 28 0 x) + g (29 + T.val) * x8 (ix4 0 29 0 x) + g (30 + T.val) * x8 (ix4 0 30 0 x) + x9 (ix2 0 x) := by
  pointwise [val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263, val_main_v264, val_main_v29, val_main_v30, val_main_cst_4]
  simp only [hg]

open Cert.MixRefIdeal.Read in
theorem refpad (x4 : FVec Ideal S16384x1024 .f32) (b : Fin 4) (T : Fin 4126) (x : Fin 512) :
    (val_main_v43 (F := Ideal) x4 (ix3 b T x) : EReal) = if h : T.val < 30 then 0 else
      x4 (ix2 ⟨b.val * 4096 + (T.val - 30), by omega⟩ ⟨x.val, by omega⟩) * Ideal.div 1 (1 + Ideal.exp (-(x4 (ix2 ⟨b.val * 4096 + (T.val - 30), by omega⟩ ⟨512 + x.val, by omega⟩)))) := by
  pointwise [val_main_v43, val_main_v42, val_main_cst_3, val_main_v41, val_main_v33, val_main_v34, val_main_v35, val_main_v36, val_main_v37, val_main_v38, val_main_v39, val_main_v40, val_main_v28, val_main_cst_1, val_main_cst_2]

end Cert.Proof.MixV

end
-- ==== Proof.MixValue.lean ====
module

public import proofs.«01_k».proof.Proof.MixLemmas

@[expose] public section

set_option maxRecDepth 16384
set_option maxHeartbeats 1000000

noncomputable section

namespace Cert.Proof.MixV

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

open Cert.MixRefIdeal.Read in
/-- One row of the merge, from the convolution's row and the projected attention's row. -/
theorem tail (C : FVec Ideal S256x512 .f32) (A : FVec Ideal S256x1024 .f32) (M6 : FVec Ideal S256x2048 .f32) (X7 : FVec Ideal S256x1024 .f32)
    (g12 b13 : FVec Ideal S1x512 .f32) (N14 : FVec Ideal S512x1024 .bf16) (W15 : FVec Ideal S1024x1024 .bf16)
    (x0 x1 x2 : FVec Ideal S16384x512 .f32) (x3 : FVec Ideal S16384x128 .f32) (x4 : FVec Ideal S16384x1024 .f32) (x5 : FVec Ideal S16384x2048 .f32)
    (x6 : FVec Ideal S16384x1024 .f32) (x7 : FVec Ideal S1x512x1024 .f32) (x8 : FVec Ideal S1x31x1x512 .f32) (x9 x10 x11 : FVec Ideal S1x512 .f32)
    (x12 : FVec Ideal S1x512x1024 .f32) (x13 : FVec Ideal S1x1024x1024 .f32) (p : Fin 256) (n : Fin 1024) (a : Fin 16384)
    (hC : ∀ x, (C (ix2 p x) : EReal) = val_main_v264 (F := Ideal) x4 x8 x9 (ix3 ⟨a.val / 4096, by omega⟩ ⟨a.val % 4096, by omega⟩ x))
    (hA : ∀ n, (A (ix2 p n) : EReal) = val_main_v27 (F := Ideal) x0 x1 x2 x3 x7 (ix2 a n))
    (h6 : ∀ n, (M6 (ix2 p n) : EReal) = x5 (ix2 a n)) (h7 : ∀ n, (X7 (ix2 p n) : EReal) = x6 (ix2 a n))
    (h12 : ∀ x, (g12 (ix2 0 x) : EReal) = x10 (ix2 0 x)) (h13 : ∀ x, (b13 (ix2 0 x) : EReal) = x11 (ix2 0 x))
    (h14 : ∀ x n, (N14 (ix2 x n) : EReal) = x12 (ix3 0 x n)) (h15 : ∀ x n, (W15 (ix2 x n) : EReal) = x13 (ix3 0 x n)) :
    (k0_pay1 (F := Ideal) (k0_pay29 (F := Ideal) C
        (divf (shapeCast S256x1 (multiReduction FKind.add [1] S256 C (0#32) reduces_S256x512_S256 (.inl rfl) rfl) shapeCasts_S256_S256x1)
          (broadcast S256x1 (FloatOps.ofBits FTy.f32 1140850688#32)))
        (shapeCast S256x1 (multiReduction FKind.add [1] S256 (mulf (subf C (broadcastTo S256x512 (divf (shapeCast S256x1 (multiReduction FKind.add [1] S256 C (0#32) reduces_S256x512_S256 (.inl rfl) rfl) shapeCasts_S256_S256x1) (broadcast S256x1 (FloatOps.ofBits FTy.f32 1140850688#32))) broadcasts_S256x1_S256x512)) (subf C (broadcastTo S256x512 (divf (shapeCast S256x1 (multiReduction FKind.add [1] S256 C (0#32) reduces_S256x512_S256 (.inl rfl) rfl) shapeCasts_S256_S256x1) (broadcast S256x1 (FloatOps.ofBits FTy.f32 1140850688#32))) broadcasts_S256x1_S256x512))) (0#32) reduces_S256x512_S256 (.inl rfl) rfl) shapeCasts_S256_S256x1) g12 b13 N14) (k0_pay30 A M6) (k0_pay31 M6) X7 W15 (ix2 p n) : EReal)
      = val_main_v306 (F := Ideal) x0 x1 x2 x3 x4 x5 x6 x7 x8 x9 x10 x11 x12 x13 (ix2 a n) := by
  pointwise [k0_pay1, k0_pay29, k0_pay30, k0_pay31, val_main_v31, val_main_v32, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_call0_v0, val_main_call0_v1, val_main_call0_v2, val_main_call0_v3, val_main_call0_v4, val_main_call0_v5, val_main_call0_cst, val_main_call0_cst_0, val_main_cst_5, val_main_cst_6, val_main_cst_7, val_main_cst_8, val_main_cst_9, val_main_cst_10, val_main_cst_11]
  simp only [hC, hA, h6, h7, h12, h13, h14, h15, neg_of_sub]

theorem ext_main (H : FVec Ideal S1x32x512 .f32) (U : FVec Ideal S1x256x512 .f32) (p : Fin 256) (x : Fin 512) : ext H U (32 + p.val) x = U (ix3 0 p x) := by
  have h1 : ¬ (32 + p.val < 32) := by omega
  have h2 : 32 + p.val - 32 < 256 := by omega
  have h3 : (⟨32 + p.val - 32, h2⟩ : Fin 256) = p := Fin.ext (by show 32 + p.val - 32 = p.val; omega)
  simp only [ext, h1, h2, dif_neg, dif_pos, not_false_iff, h3]

/-- A tile's gated units. -/
theorem mainU (G : FVec Ideal S256x1024 .f32) (p : Fin 256) (x : Fin 512) :
    (k0_pay5 (F := Ideal) (k0_pay3 (F := Ideal) G) (ix3 0 p x) : EReal)
      = G (ix2 p ⟨x.val, by omega⟩) * Ideal.div 1 (1 + Ideal.exp (-(G (ix2 p ⟨512 + x.val, by omega⟩)))) := by
  pointwise [k0_pay5, k0_pay3]
  simp only [neg_of_sub]

theorem first_bit : ∀ i : Fin 64, (Scalar.cmpi .eq (Scalar.select (Scalar.andi (Scalar.xori (Scalar.cmpi .slt (Scalar.remsi (BitVec.ofNat 32 i.val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 i.val) (Scalar.select (Scalar.cmpi .eq 16#32 0#32) 1#32 16#32)) 0#32)) (Scalar.addi (Scalar.remsi (BitVec.ofNat 32 i.val) (Scalar.select (Scalar.cmpi .eq 16#32 0#32) 1#32 16#32)) (Scalar.select (Scalar.cmpi .eq 16#32 0#32) 1#32 16#32)) (Scalar.remsi (BitVec.ofNat 32 i.val) (Scalar.select (Scalar.cmpi .eq 16#32 0#32) 1#32 16#32))) 0#32) = if i.val % 16 = 0 then 1#1 else 0#1 := by
  decide +kernel

/-- The halo's gated units: zero before a sequence's first tile. -/
theorem haloH (G : FVec Ideal S32x1024 .f32) (i : Fin 64) (p : Fin 32) (x : Fin 512) :
    (k0_pay4 (F := Ideal) (BitVec.ofNat 32 i.val) G (ix3 0 p x) : EReal)
      = if i.val % 16 = 0 then 0 else G (ix2 p ⟨x.val, by omega⟩) * Ideal.div 1 (1 + Ideal.exp (-(G (ix2 p ⟨512 + x.val, by omega⟩)))) := by
  unfold k0_pay4
  rw [first_bit i]
  by_cases h : i.val % 16 = 0
  · simp only [h, if_true]
    pointwise
  · simp only [h, if_false]
    pointwise
    simp only [neg_of_sub]

theorem coord : ∀ t : Fin cfg0.N, (grid0.coords t 0).val = t.val := (by decide +kernel : ∀ t : Fin grid0.N, _)

variable (m : (ℓ : Loc nD τ sig) → Buf (Elt Ideal) ℓ)

open Cert.MixRefIdeal.Read in
/-- The rows the convolution reads are the reference's padded rows. -/
theorem rows (c : Dev nD) (t : Fin cfg0.N) (p : Fin 256) (x : Fin 512) (k : ℕ) (hk : k < 31) (hb : (t.val * 256 + p.val) / 4096 < 4)
    (hkT : k + (t.val * 256 + p.val) % 4096 < 4126) :
    (val_main_v43 (F := Ideal) (m ((c : Thread nD τ).loc main_arg4)) (ix3 ⟨(t.val * 256 + p.val) / 4096, hb⟩ ⟨k + (t.val * 256 + p.val) % 4096, hkT⟩ x) : EReal)
      = ext (k0_pay4 (F := Ideal) (BitVec.ofNat 32 (grid0.coords t 0).val) (iblk m c 5 t)) (k0_pay5 (F := Ideal) (k0_pay3 (F := Ideal) (iblk m c 4 t))) (k + 2 + p.val) x := by
  have ht := tlt t
  have hp := p.isLt
  rw [refpad]
  unfold ext
  by_cases h1 : k + 2 + p.val < 32
  · rw [dif_pos h1]
    refine Eq.trans ?_ (Eq.trans (haloH (iblk m c 5 t) ⟨t.val, ht⟩ ⟨k + 2 + p.val, h1⟩ x).symm (by rw [coord]))
    by_cases h0 : t.val % 16 = 0
    · rw [if_pos h0]
      have h2 : k + (t.val * 256 + p.val) % 4096 < 30 := by omega
      rw [dif_pos h2]
    · rw [if_neg h0]
      have h2 : ¬ (k + (t.val * 256 + p.val) % 4096 < 30) := by omega
      rw [dif_neg h2]
      have hpos : 0 < t.val := by omega
      have hr : (t.val * 256 + p.val) / 4096 * 4096 + (k + (t.val * 256 + p.val) % 4096 - 30) + 32 = t.val * 256 + (k + 2 + p.val) := by omega
      rw [blk5 m c t ⟨k + 2 + p.val, h1⟩ ⟨x.val, by omega⟩ ⟨_, by omega⟩ hpos hr, blk5 m c t ⟨k + 2 + p.val, h1⟩ ⟨512 + x.val, by omega⟩ ⟨_, by omega⟩ hpos hr]
  · have h3 : k + 2 + p.val - 32 < 256 := by omega
    rw [dif_neg h1, dif_pos h3]
    refine Eq.trans ?_ (mainU (iblk m c 4 t) ⟨k + 2 + p.val - 32, h3⟩ x).symm
    have h2 : ¬ (k + (t.val * 256 + p.val) % 4096 < 30) := by omega
    rw [dif_neg h2]
    have hr : (t.val * 256 + p.val) / 4096 * 4096 + (k + (t.val * 256 + p.val) % 4096 - 30) = t.val * 256 + (k + 2 + p.val - 32) := by omega
    rw [blk4 m c t ⟨k + 2 + p.val - 32, h3⟩ ⟨x.val, by omega⟩ ⟨_, by omega⟩ hr, blk4 m c t ⟨k + 2 + p.val - 32, h3⟩ ⟨512 + x.val, by omega⟩ ⟨_, by omega⟩ hr]

open Cert.MixRefIdeal.Read in
/-- The result array after the run. -/
theorem final16 (c : Dev nD) : (dats m 0 c).arrAt 16 (cfgs 0).N
    = val_main_v306 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 16 _ (by decide +kernel) fun t _ y => ?_
  blk_simp
  rw [after0_16]
  unfold Gen.outsAt0
  frame_open
  simp (disch := decide) only [↓ View.readCov_skip, ↓ View.readCov_cons_toLoadRect, ↓ View.readCov_fill]
  frame_out
  simp (disch := decide) only [slotj, slot0]
  simp only [k0_pay27, k0_pay28]
  generalize hC : k0_pay26 (F := Ideal) _ _ _ _ _ _ _ _ _ _ = C
  obtain ⟨p, n, rfl⟩ : ∃ (a : Fin 256) (b : Fin 1024), y = ix2 a b := ⟨y 0, y 1, eq_ix2 (n0 := 256) (n1 := 1024) y⟩
  have ht := tlt t
  have hp := p.isLt
  have hc : ∀ x : Fin 512, (C (ix2 p x) : EReal) = val_main_v264 (F := Ideal) (m ((c : Thread nD τ).loc main_arg4)) (m ((c : Thread nD τ).loc main_arg8)) (m ((c : Thread nD τ).loc main_arg9))
      (ix3 ⟨(t.val * 256 + p.val) / 4096, by omega⟩ ⟨(t.val * 256 + p.val) % 4096, by omega⟩ x) := by
    intro x
    have hrow := fun k hk h1 h2 => rows m c t p x k hk h1 h2
    have hw : ∀ k, iblk m c 10 t (ix2 k x) = m ((c : Thread nD τ).loc main_arg8) (ix4 0 k 0 x) := fun k => blk10 m c t k x
    have hbw := blk11 m c t x
    generalize hH : k0_pay4 (F := Ideal) _ (iblk m c 5 t) = H at hC hrow
    generalize hU : k0_pay5 (F := Ideal) (k0_pay3 (F := Ideal) (iblk m c 4 t)) = U at hC hrow
    generalize hW : iblk m c 10 t = W at hC hw
    generalize hB : iblk m c 11 t = Bw at hC hbw
    have hk : (C (ix2 p x) : EReal) = 0 + ext H U (2 + p.val) x * W (ix2 0 x) + ext H U (3 + p.val) x * W (ix2 1 x) + ext H U (4 + p.val) x * W (ix2 2 x) + ext H U (5 + p.val) x * W (ix2 3 x) + ext H U (6 + p.val) x * W (ix2 4 x) + ext H U (7 + p.val) x * W (ix2 5 x) + ext H U (8 + p.val) x * W (ix2 6 x) + ext H U (9 + p.val) x * W (ix2 7 x) + ext H U (10 + p.val) x * W (ix2 8 x) + ext H U (11 + p.val) x * W (ix2 9 x) + ext H U (12 + p.val) x * W (ix2 10 x) + ext H U (13 + p.val) x * W (ix2 11 x) + ext H U (14 + p.val) x * W (ix2 12 x) + ext H U (15 + p.val) x * W (ix2 13 x) + ext H U (16 + p.val) x * W (ix2 14 x) + ext H U (17 + p.val) x * W (ix2 15 x) + ext H U (18 + p.val) x * W (ix2 16 x) + ext H U (19 + p.val) x * W (ix2 17 x) + ext H U (20 + p.val) x * W (ix2 18 x) + ext H U (21 + p.val) x * W (ix2 19 x) + ext H U (22 + p.val) x * W (ix2 20 x) + ext H U (23 + p.val) x * W (ix2 21 x) + ext H U (24 + p.val) x * W (ix2 22 x) + ext H U (25 + p.val) x * W (ix2 23 x) + ext H U (26 + p.val) x * W (ix2 24 x) + ext H U (27 + p.val) x * W (ix2 25 x) + ext H U (28 + p.val) x * W (ix2 26 x) + ext H U (29 + p.val) x * W (ix2 27 x) + ext H U (30 + p.val) x * W (ix2 28 x) + ext H U (31 + p.val) x * W (ix2 29 x) + ext H U (32 + p.val) x * W (ix2 30 x) + Bw (ix2 0 x) := by
      rw [← hC]
      clear hC hH hU hW hB hrow hw hbw
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
      simp only [← Nat.add_assoc, Nat.reduceAdd, ext_main]
    rw [hk, refconv _ _ _ _ _ x (fun k => if h : k < 4126 then (val_main_v43 (F := Ideal) (m ((c : Thread nD τ).loc main_arg4)) (ix3 ⟨(t.val * 256 + p.val) / 4096, by omega⟩ ⟨k, h⟩ x) : EReal) else 0)
      (fun k h => by simp only [h, dif_pos])]
    have hg : ∀ k, k < 31 → (if h : k + (t.val * 256 + p.val) % 4096 < 4126 then (val_main_v43 (F := Ideal) (m ((c : Thread nD τ).loc main_arg4)) (ix3 ⟨(t.val * 256 + p.val) / 4096, by omega⟩ ⟨k + (t.val * 256 + p.val) % 4096, h⟩ x) : EReal) else 0)
        = ext H U (k + 2 + p.val) x := by
      intro k hk
      have h2 : k + (t.val * 256 + p.val) % 4096 < 4126 := by omega
      rw [dif_pos h2]
      exact hrow k hk _ h2
    simp only [hw, hbw]
    rw [hg 0 (by decide), hg 1 (by decide), hg 2 (by decide), hg 3 (by decide), hg 4 (by decide), hg 5 (by decide), hg 6 (by decide), hg 7 (by decide), hg 8 (by decide), hg 9 (by decide), hg 10 (by decide), hg 11 (by decide), hg 12 (by decide), hg 13 (by decide), hg 14 (by decide), hg 15 (by decide), hg 16 (by decide), hg 17 (by decide), hg 18 (by decide), hg 19 (by decide), hg 20 (by decide), hg 21 (by decide), hg 22 (by decide), hg 23 (by decide), hg 24 (by decide), hg 25 (by decide), hg 26 (by decide), hg 27 (by decide), hg 28 (by decide), hg 29 (by decide), hg 30 (by decide)]
  refine (tail C (k0_pay2 (F := Ideal) (iblk m c 3 t) (iblk m c 8 t) (iblk m c 0 t) (iblk m c 1 t) (iblk m c 2 t) (iblk m c 9 t)) (iblk m c 6 t) (iblk m c 7 t) (iblk m c 12 t) (iblk m c 13 t) (iblk m c 14 t) (iblk m c 15 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) p n ⟨t.val * 256 + p.val, by omega⟩ hc ?_
    (fun n => blk6 m c t p n ⟨_, by omega⟩ rfl) (fun n => blk7 m c t p n ⟨_, by omega⟩ rfl) (fun x => blk12 m c t x) (fun x => blk13 m c t x) (fun x n => blk14 m c t x n) (fun x n => blk15 m c t x n)).trans
    (congrArg (val_main_v306 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) ?_)
  · intro n
    refine (nsaK _ _ _ _ _ _ p n (fun k x => blk8 m c t k x)).trans (Eq.trans ?_ (nsaR _ _ _ _ _ _ n).symm)
    refine Finset.sum_congr rfl fun x _ => ?_
    rw [blk0 m c t p x ⟨t.val * 256 + p.val, by omega⟩ rfl, blk1 m c t p x ⟨t.val * 256 + p.val, by omega⟩ rfl, blk2 m c t p x ⟨t.val * 256 + p.val, by omega⟩ rfl,
      blk3 m c t p _ ⟨t.val * 256 + p.val, by omega⟩ rfl, blk3 m c t p _ ⟨t.val * 256 + p.val, by omega⟩ rfl, blk3 m c t p _ ⟨t.val * 256 + p.val, by omega⟩ rfl, blk9 m c t x n]
  · have hw : win0_16.index t = ![t.val, 0] := (idxA t).2.2.2.2.2.2.2.2
    refine Eq.trans ?_ (eq_ix2 (n0 := 16384) (n1 := 1024) _).symm
    blk_ext [hw]

end Cert.Proof.MixV

end
-- ==== Proof.WinMath.lean ====
module

public import Idealize.ShloMosaic.Lib.Pointwise

@[expose] public section

set_option maxRecDepth 16384
set_option maxHeartbeats 1000000

noncomputable section

namespace Cert.Proof.WinV

open Idealize.ShloMosaic

/-- The change of base: `2 ^ (lam * x)` is `exp x`. -/
abbrev lam : ℝ := (Real.log 2)⁻¹

theorem log_two_ne : Real.log 2 ≠ 0 := (Real.log_pos (by norm_num)).ne'

theorem pow_lam (x : ℝ) : (2 : ℝ) ^ (lam * x) = Real.exp x := by
  rw [Real.rpow_def_of_pos (by norm_num)]
  congr 1
  unfold lam
  rw [← mul_assoc, mul_inv_cancel₀ log_two_ne, one_mul]

theorem real_of {x : EReal} (h1 : x ≠ ⊤) (h2 : x ≠ ⊥) : ∃ r : ℝ, x = (r : EReal) := ⟨x.toReal, (EReal.coe_toReal h1 h2).symm⟩

theorem coe_fsum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fsum_mul {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- A weighted mean does not depend on a common factor of its weights. -/
theorem div_sum {ι : Type} [Fintype ι] (v : ι → EReal) (e : ι → ℝ) (hZ : 0 < ∑ x, e x) (c : ℝ) (hc : 0 < c) :
    Ideal.div (∑ x, v x * ((e x * c : ℝ) : EReal)) (∑ x, ((e x * c : ℝ) : EReal)) = ∑ x, v x * ((e x / ∑ y, e y : ℝ) : EReal) := by
  have hs : (∑ x, ((e x * c : ℝ) : EReal)) = (((∑ x, e x) * c : ℝ) : EReal) := by rw [← coe_fsum, Finset.sum_mul]
  have hp : 0 < (∑ x, e x) * c := mul_pos hZ hc
  rw [hs, Ideal.div_coe hp.ne', fsum_mul _ _ _ (by positivity)]
  refine Finset.sum_congr rfl fun x _ => ?_
  rw [mul_assoc, ← EReal.coe_mul]
  congr 2
  field_simp

/-- A tile's weight. -/
theorem weight (w : Prop) [Decidable w] (ρ s μ : ℝ) :
    Ideal.exp2 ((if w then ((lam * ρ - s : ℝ) : EReal) else ⊥) - ((μ : EReal) - (s : EReal)))
      = (((if w then Real.exp ρ else 0) * (2 : ℝ) ^ (-μ) : ℝ) : EReal) := by
  by_cases h : w
  · simp only [if_pos h]
    rw [← EReal.coe_sub, ← EReal.coe_sub, Ideal.exp2_coe]
    show (((2 : ℝ) ^ (lam * ρ - s - (μ - s)) : ℝ) : EReal) = _
    rw [show lam * ρ - s - (μ - s) = lam * ρ + -μ by ring, Real.rpow_add (by norm_num), pow_lam]
  · simp only [if_neg h, zero_mul, EReal.coe_zero]
    rw [← EReal.coe_sub]
    show Ideal.exp2 (⊥ - _) = 0
    rw [EReal.bot_sub, Ideal.exp2_bot]

theorem tile_lt_top {n : ℕ} (S : Fin n → EReal) (s : ℝ) (hS : ∀ x, S x ≠ ⊤) : Finset.fold max (⊥ : EReal) S Finset.univ + (s : EReal) ≠ ⊤ := by
  have h : Finset.fold max (⊥ : EReal) S Finset.univ < ⊤ := (Finset.fold_max_lt ..).2 ⟨bot_lt_top, fun x _ => (hS x).lt_top⟩
  exact EReal.add_ne_top h.ne (EReal.coe_ne_top s)

theorem tile_gt_bot {n : ℕ} (S : Fin n → EReal) (s : ℝ) (hS : ∃ x, S x ≠ ⊥) : Finset.fold max (⊥ : EReal) S Finset.univ + (s : EReal) ≠ ⊥ := by
  obtain ⟨x, hx⟩ := hS
  have h : ⊥ < Finset.fold max (⊥ : EReal) S Finset.univ := (Finset.lt_fold_max ..).2 (.inr ⟨x, Finset.mem_univ _, hx.bot_lt⟩)
  intro e
  rcases EReal.add_eq_bot_iff.1 e with e | e
  · exact h.ne' e
  · exact EReal.coe_ne_bot s e

/-- Row `x` of tile `i`. -/
def pos (i : Fin 16) (x : Fin 256) : Fin 4096 := ⟨256 * i.val + x.val, by omega⟩

theorem sum_tiles {M : Type} [AddCommMonoid M] (f : Fin 4096 → M) : ∑ p, f p = ∑ i : Fin 16, ∑ x : Fin 256, f (pos i x) := by
  rw [← Fintype.sum_prod_type']
  exact (Fintype.sum_equiv (finProdFinEquiv (m := 16) (n := 256)) (fun p => f (pos p.1 p.2)) f (fun p => congrArg f (Fin.ext (by show 256 * p.1.val + p.2.val = p.2.val + 256 * p.1.val; omega)))).symm

theorem sum_tiles1 {M : Type} [AddCommMonoid M] (f : Fin 4096 → M) (a : Fin 16)  (hz : ∀ i, i ≠ a → ∀ x, f (pos i x) = 0) :
    ∑ x, f (pos a x) = ∑ p, f p := by
  rw [sum_tiles, ← Finset.sum_subset (Finset.subset_univ ({a} : Finset (Fin 16))) (fun i _ hi => ?_)]
  · rw [Finset.sum_singleton]
  · simp only [Finset.mem_insert, Finset.mem_singleton, not_or] at hi
    exact Finset.sum_eq_zero fun x _ => hz i hi x

/-- The kernel's softmax over 1 tile, from its scores to the base two, less the tiles' shifts. -/
theorem flash1 (S0 V0 : Fin 256 → EReal) (N B h0 : EReal) (hN : N = ⊥) (hB : B = ⊥)
    (ρ : Fin 4096 → ℝ) (W : Fin 4096 → Prop) [DecidablePred W] (v : Fin 4096 → EReal) (a : Fin 16)
    (hz : ∀ i, i ≠ a → ∀ x, ¬ W (pos i x)) (hw : ∃ x, W (pos a x))
    (s0 : ℝ) (hh0 : h0 = (s0 : EReal)) (hS0 : ∀ x, S0 x = if W (pos a x) then ((lam * ρ (pos a x) - s0 : ℝ) : EReal) else ⊥) (hV0 : ∀ x, V0 x = v (pos a x)) :
    Ideal.div (Ideal.exp2 (N - (max (N) (Finset.fold max B S0 Finset.univ + h0))) * 0 + ∑ x, V0 x * Ideal.exp2 (S0 x - ((max (N) (Finset.fold max B S0 Finset.univ + h0)) - h0))) (Ideal.exp2 (N - (max (N) (Finset.fold max B S0 Finset.univ + h0))) * 0 + ∑ x, Ideal.exp2 (S0 x - ((max (N) (Finset.fold max B S0 Finset.univ + h0)) - h0)))
      = ∑ p, v p * (((if W p then Real.exp (ρ p) else 0) / ∑ q, (if W q then Real.exp (ρ q) else 0) : ℝ) : EReal) := by
  subst hN hB hh0
  obtain rfl : V0 = fun x => v (pos a x) := funext hV0
  have ht0 : ∀ x, S0 x ≠ ⊤ := fun x => by rw [hS0 x]; split_ifs; exacts [EReal.coe_ne_top _, bot_ne_top]
  obtain ⟨x0, hx0⟩ := hw
  have hb : ∃ x, S0 x ≠ ⊥ := ⟨x0, by rw [hS0, if_pos hx0]; exact EReal.coe_ne_bot _⟩
  obtain ⟨μ, hμ⟩ : ∃ μ : ℝ, (max ((⊥ : EReal)) (Finset.fold max (⊥ : EReal) S0 Finset.univ + (s0 : EReal))) = (μ : EReal) := by
    refine real_of ?_ ?_
    · simp only [ne_eq, max_eq_top, not_or]
      exact ⟨bot_ne_top, tile_lt_top _ _ ht0⟩
    · simp only [ne_eq, max_eq_bot, not_and_or]
      exact .inr (tile_gt_bot _ _ hb)
  rw [hμ]
  have h0 : Ideal.exp2 (⊥ - (μ : EReal)) * 0 = 0 := mul_zero _
  simp only [h0, zero_add]
  simp only [hS0, weight]
  have hZ : 0 < ∑ q, (if W q then Real.exp (ρ q) else 0) :=
    Finset.sum_pos' (fun q _ => by split_ifs; exacts [(Real.exp_pos _).le, le_rfl]) ⟨pos a x0, Finset.mem_univ _, by rw [if_pos hx0]; exact Real.exp_pos _⟩
  refine Eq.trans (congrArg₂ Ideal.div
    (sum_tiles1 (fun p => v p * (((if W p then Real.exp (ρ p) else 0) * (2 : ℝ) ^ (-μ) : ℝ) : EReal)) a  (fun i ha x => by simp only [if_neg (hz i ha x), zero_mul, EReal.coe_zero, mul_zero]))
    (sum_tiles1 (fun p => (((if W p then Real.exp (ρ p) else 0) * (2 : ℝ) ^ (-μ) : ℝ) : EReal)) a  (fun i ha x => by simp only [if_neg (hz i ha x), zero_mul, EReal.coe_zero])))
    (div_sum v _ hZ _ (Real.rpow_pos_of_pos (by norm_num) _))

theorem sum_tiles2 {M : Type} [AddCommMonoid M] (f : Fin 4096 → M) (a b : Fin 16) (ab : a ≠ b) (hz : ∀ i, i ≠ a → i ≠ b → ∀ x, f (pos i x) = 0) :
    ∑ x, f (pos a x) + ∑ x, f (pos b x) = ∑ p, f p := by
  rw [sum_tiles, ← Finset.sum_subset (Finset.subset_univ ({a, b} : Finset (Fin 16))) (fun i _ hi => ?_)]
  · rw [Finset.sum_pair ab]
  · simp only [Finset.mem_insert, Finset.mem_singleton, not_or] at hi
    exact Finset.sum_eq_zero fun x _ => hz i hi.1 hi.2 x

/-- The kernel's softmax over 2 tiles, from its scores to the base two, less the tiles' shifts. -/
theorem flash2 (S0 S1 V0 V1 : Fin 256 → EReal) (N B h0 h1 : EReal) (hN : N = ⊥) (hB : B = ⊥)
    (ρ : Fin 4096 → ℝ) (W : Fin 4096 → Prop) [DecidablePred W] (v : Fin 4096 → EReal) (a b : Fin 16) (ab : a ≠ b)
    (hz : ∀ i, i ≠ a → i ≠ b → ∀ x, ¬ W (pos i x)) (hw : ∃ x, W (pos a x))
    (s0 : ℝ) (hh0 : h0 = (s0 : EReal)) (hS0 : ∀ x, S0 x = if W (pos a x) then ((lam * ρ (pos a x) - s0 : ℝ) : EReal) else ⊥) (hV0 : ∀ x, V0 x = v (pos a x)) (s1 : ℝ) (hh1 : h1 = (s1 : EReal)) (hS1 : ∀ x, S1 x = if W (pos b x) then ((lam * ρ (pos b x) - s1 : ℝ) : EReal) else ⊥) (hV1 : ∀ x, V1 x = v (pos b x)) :
    Ideal.div (Ideal.exp2 (N - (max (max (N) (Finset.fold max B S0 Finset.univ + h0)) (Finset.fold max B S1 Finset.univ + h1))) * 0 + ∑ x, V0 x * Ideal.exp2 (S0 x - ((max (max (N) (Finset.fold max B S0 Finset.univ + h0)) (Finset.fold max B S1 Finset.univ + h1)) - h0)) + ∑ x, V1 x * Ideal.exp2 (S1 x - ((max (max (N) (Finset.fold max B S0 Finset.univ + h0)) (Finset.fold max B S1 Finset.univ + h1)) - h1))) (Ideal.exp2 (N - (max (max (N) (Finset.fold max B S0 Finset.univ + h0)) (Finset.fold max B S1 Finset.univ + h1))) * 0 + ∑ x, Ideal.exp2 (S0 x - ((max (max (N) (Finset.fold max B S0 Finset.univ + h0)) (Finset.fold max B S1 Finset.univ + h1)) - h0)) + ∑ x, Ideal.exp2 (S1 x - ((max (max (N) (Finset.fold max B S0 Finset.univ + h0)) (Finset.fold max B S1 Finset.univ + h1)) - h1)))
      = ∑ p, v p * (((if W p then Real.exp (ρ p) else 0) / ∑ q, (if W q then Real.exp (ρ q) else 0) : ℝ) : EReal) := by
  subst hN hB hh0 hh1
  obtain rfl : V0 = fun x => v (pos a x) := funext hV0
  obtain rfl : V1 = fun x => v (pos b x) := funext hV1
  have ht0 : ∀ x, S0 x ≠ ⊤ := fun x => by rw [hS0 x]; split_ifs; exacts [EReal.coe_ne_top _, bot_ne_top]
  have ht1 : ∀ x, S1 x ≠ ⊤ := fun x => by rw [hS1 x]; split_ifs; exacts [EReal.coe_ne_top _, bot_ne_top]
  obtain ⟨x0, hx0⟩ := hw
  have hb : ∃ x, S0 x ≠ ⊥ := ⟨x0, by rw [hS0, if_pos hx0]; exact EReal.coe_ne_bot _⟩
  obtain ⟨μ, hμ⟩ : ∃ μ : ℝ, (max (max ((⊥ : EReal)) (Finset.fold max (⊥ : EReal) S0 Finset.univ + (s0 : EReal))) (Finset.fold max (⊥ : EReal) S1 Finset.univ + (s1 : EReal))) = (μ : EReal) := by
    refine real_of ?_ ?_
    · simp only [ne_eq, max_eq_top, not_or]
      exact ⟨⟨bot_ne_top, tile_lt_top _ _ ht0⟩, tile_lt_top _ _ ht1⟩
    · simp only [ne_eq, max_eq_bot, not_and_or]
      exact .inl (.inr (tile_gt_bot _ _ hb))
  rw [hμ]
  have h0 : Ideal.exp2 (⊥ - (μ : EReal)) * 0 = 0 := mul_zero _
  simp only [h0, zero_add]
  simp only [hS0, hS1, weight]
  have hZ : 0 < ∑ q, (if W q then Real.exp (ρ q) else 0) :=
    Finset.sum_pos' (fun q _ => by split_ifs; exacts [(Real.exp_pos _).le, le_rfl]) ⟨pos a x0, Finset.mem_univ _, by rw [if_pos hx0]; exact Real.exp_pos _⟩
  refine Eq.trans (congrArg₂ Ideal.div
    (sum_tiles2 (fun p => v p * (((if W p then Real.exp (ρ p) else 0) * (2 : ℝ) ^ (-μ) : ℝ) : EReal)) a b ab (fun i ha hb x => by simp only [if_neg (hz i ha hb x), zero_mul, EReal.coe_zero, mul_zero]))
    (sum_tiles2 (fun p => (((if W p then Real.exp (ρ p) else 0) * (2 : ℝ) ^ (-μ) : ℝ) : EReal)) a b ab (fun i ha hb x => by simp only [if_neg (hz i ha hb x), zero_mul, EReal.coe_zero])))
    (div_sum v _ hZ _ (Real.rpow_pos_of_pos (by norm_num) _))

theorem sum_tiles3 {M : Type} [AddCommMonoid M] (f : Fin 4096 → M) (a b d : Fin 16) (ab : a ≠ b) (ad : a ≠ d) (bd : b ≠ d) (hz : ∀ i, i ≠ a → i ≠ b → i ≠ d → ∀ x, f (pos i x) = 0) :
    ∑ x, f (pos a x) + ∑ x, f (pos b x) + ∑ x, f (pos d x) = ∑ p, f p := by
  rw [sum_tiles, ← Finset.sum_subset (Finset.subset_univ ({a, b, d} : Finset (Fin 16))) (fun i _ hi => ?_)]
  · rw [Finset.sum_insert (by simp [ab, ad]), Finset.sum_pair bd, ← add_assoc]
  · simp only [Finset.mem_insert, Finset.mem_singleton, not_or] at hi
    exact Finset.sum_eq_zero fun x _ => hz i hi.1 hi.2.1 hi.2.2 x

/-- The kernel's softmax over 3 tiles, from its scores to the base two, less the tiles' shifts. -/
theorem flash3 (S0 S1 S2 V0 V1 V2 : Fin 256 → EReal) (N B h0 h1 h2 : EReal) (hN : N = ⊥) (hB : B = ⊥)
    (ρ : Fin 4096 → ℝ) (W : Fin 4096 → Prop) [DecidablePred W] (v : Fin 4096 → EReal) (a b d : Fin 16) (ab : a ≠ b) (ad : a ≠ d) (bd : b ≠ d)
    (hz : ∀ i, i ≠ a → i ≠ b → i ≠ d → ∀ x, ¬ W (pos i x)) (hw : ∃ x, W (pos a x))
    (s0 : ℝ) (hh0 : h0 = (s0 : EReal)) (hS0 : ∀ x, S0 x = if W (pos a x) then ((lam * ρ (pos a x) - s0 : ℝ) : EReal) else ⊥) (hV0 : ∀ x, V0 x = v (pos a x)) (s1 : ℝ) (hh1 : h1 = (s1 : EReal)) (hS1 : ∀ x, S1 x = if W (pos b x) then ((lam * ρ (pos b x) - s1 : ℝ) : EReal) else ⊥) (hV1 : ∀ x, V1 x = v (pos b x)) (s2 : ℝ) (hh2 : h2 = (s2 : EReal)) (hS2 : ∀ x, S2 x = if W (pos d x) then ((lam * ρ (pos d x) - s2 : ℝ) : EReal) else ⊥) (hV2 : ∀ x, V2 x = v (pos d x)) :
    Ideal.div (Ideal.exp2 (N - (max (max (max (N) (Finset.fold max B S0 Finset.univ + h0)) (Finset.fold max B S1 Finset.univ + h1)) (Finset.fold max B S2 Finset.univ + h2))) * 0 + ∑ x, V0 x * Ideal.exp2 (S0 x - ((max (max (max (N) (Finset.fold max B S0 Finset.univ + h0)) (Finset.fold max B S1 Finset.univ + h1)) (Finset.fold max B S2 Finset.univ + h2)) - h0)) + ∑ x, V1 x * Ideal.exp2 (S1 x - ((max (max (max (N) (Finset.fold max B S0 Finset.univ + h0)) (Finset.fold max B S1 Finset.univ + h1)) (Finset.fold max B S2 Finset.univ + h2)) - h1)) + ∑ x, V2 x * Ideal.exp2 (S2 x - ((max (max (max (N) (Finset.fold max B S0 Finset.univ + h0)) (Finset.fold max B S1 Finset.univ + h1)) (Finset.fold max B S2 Finset.univ + h2)) - h2))) (Ideal.exp2 (N - (max (max (max (N) (Finset.fold max B S0 Finset.univ + h0)) (Finset.fold max B S1 Finset.univ + h1)) (Finset.fold max B S2 Finset.univ + h2))) * 0 + ∑ x, Ideal.exp2 (S0 x - ((max (max (max (N) (Finset.fold max B S0 Finset.univ + h0)) (Finset.fold max B S1 Finset.univ + h1)) (Finset.fold max B S2 Finset.univ + h2)) - h0)) + ∑ x, Ideal.exp2 (S1 x - ((max (max (max (N) (Finset.fold max B S0 Finset.univ + h0)) (Finset.fold max B S1 Finset.univ + h1)) (Finset.fold max B S2 Finset.univ + h2)) - h1)) + ∑ x, Ideal.exp2 (S2 x - ((max (max (max (N) (Finset.fold max B S0 Finset.univ + h0)) (Finset.fold max B S1 Finset.univ + h1)) (Finset.fold max B S2 Finset.univ + h2)) - h2)))
      = ∑ p, v p * (((if W p then Real.exp (ρ p) else 0) / ∑ q, (if W q then Real.exp (ρ q) else 0) : ℝ) : EReal) := by
  subst hN hB hh0 hh1 hh2
  obtain rfl : V0 = fun x => v (pos a x) := funext hV0
  obtain rfl : V1 = fun x => v (pos b x) := funext hV1
  obtain rfl : V2 = fun x => v (pos d x) := funext hV2
  have ht0 : ∀ x, S0 x ≠ ⊤ := fun x => by rw [hS0 x]; split_ifs; exacts [EReal.coe_ne_top _, bot_ne_top]
  have ht1 : ∀ x, S1 x ≠ ⊤ := fun x => by rw [hS1 x]; split_ifs; exacts [EReal.coe_ne_top _, bot_ne_top]
  have ht2 : ∀ x, S2 x ≠ ⊤ := fun x => by rw [hS2 x]; split_ifs; exacts [EReal.coe_ne_top _, bot_ne_top]
  obtain ⟨x0, hx0⟩ := hw
  have hb : ∃ x, S0 x ≠ ⊥ := ⟨x0, by rw [hS0, if_pos hx0]; exact EReal.coe_ne_bot _⟩
  obtain ⟨μ, hμ⟩ : ∃ μ : ℝ, (max (max (max ((⊥ : EReal)) (Finset.fold max (⊥ : EReal) S0 Finset.univ + (s0 : EReal))) (Finset.fold max (⊥ : EReal) S1 Finset.univ + (s1 : EReal))) (Finset.fold max (⊥ : EReal) S2 Finset.univ + (s2 : EReal))) = (μ : EReal) := by
    refine real_of ?_ ?_
    · simp only [ne_eq, max_eq_top, not_or]
      exact ⟨⟨⟨bot_ne_top, tile_lt_top _ _ ht0⟩, tile_lt_top _ _ ht1⟩, tile_lt_top _ _ ht2⟩
    · simp only [ne_eq, max_eq_bot, not_and_or]
      exact .inl (.inl (.inr (tile_gt_bot _ _ hb)))
  rw [hμ]
  have h0 : Ideal.exp2 (⊥ - (μ : EReal)) * 0 = 0 := mul_zero _
  simp only [h0, zero_add]
  simp only [hS0, hS1, hS2, weight]
  have hZ : 0 < ∑ q, (if W q then Real.exp (ρ q) else 0) :=
    Finset.sum_pos' (fun q _ => by split_ifs; exacts [(Real.exp_pos _).le, le_rfl]) ⟨pos a x0, Finset.mem_univ _, by rw [if_pos hx0]; exact Real.exp_pos _⟩
  refine Eq.trans (congrArg₂ Ideal.div
    (sum_tiles3 (fun p => v p * (((if W p then Real.exp (ρ p) else 0) * (2 : ℝ) ^ (-μ) : ℝ) : EReal)) a b d ab ad bd (fun i ha hb hd x => by simp only [if_neg (hz i ha hb hd x), zero_mul, EReal.coe_zero, mul_zero]))
    (sum_tiles3 (fun p => (((if W p then Real.exp (ρ p) else 0) * (2 : ℝ) ^ (-μ) : ℝ) : EReal)) a b d ab ad bd (fun i ha hb hd x => by simp only [if_neg (hz i ha hb hd x), zero_mul, EReal.coe_zero])))
    (div_sum v _ hZ _ (Real.rpow_pos_of_pos (by norm_num) _))

/-- The reference's softmax, its masked scores minus infinity. -/
theorem soft (s : Fin 4096 → EReal) (M : EReal) (ρ : Fin 4096 → ℝ) (W : Fin 4096 → Prop) [DecidablePred W] (hw : ∃ x, W x)
    (hs : ∀ p, s p = if W p then (ρ p : EReal) else ⊥) (hM : M = max ⊥ (Finset.fold max ⊥ s Finset.univ)) (p : Fin 4096) :
    (if W p then Ideal.div (Ideal.exp (s p - M)) (0 + ∑ q, Ideal.exp (s q - M)) else 0)
      = (((if W p then Real.exp (ρ p) else 0) / ∑ q, (if W q then Real.exp (ρ q) else 0) : ℝ) : EReal) := by
  obtain ⟨x0, hx0⟩ := hw
  have ht : ∀ x, s x ≠ ⊤ := fun x => by rw [hs x]; split_ifs; exacts [EReal.coe_ne_top _, bot_ne_top]
  obtain ⟨μ, hμ⟩ : ∃ μ : ℝ, M = (μ : EReal) := by
    subst hM
    refine real_of ?_ ?_
    · rw [bot_sup_eq]
      have := tile_lt_top s 0 ht
      rwa [EReal.coe_zero, add_zero] at this
    · rw [bot_sup_eq]
      have := tile_gt_bot s 0 ⟨x0, by rw [hs, if_pos hx0]; exact EReal.coe_ne_bot _⟩
      rwa [EReal.coe_zero, add_zero] at this
  have he : ∀ q, Ideal.exp (s q - M) = (((if W q then Real.exp (ρ q) else 0) * Real.exp (-μ) : ℝ) : EReal) := by
    intro q
    rw [hs q, hμ]
    by_cases h : W q
    · simp only [if_pos h]
      rw [← EReal.coe_sub, Ideal.exp_coe, sub_eq_add_neg, Real.exp_add]
    · simp only [if_neg h, zero_mul, EReal.coe_zero]
      rw [EReal.bot_sub, Ideal.exp_bot]
  have hZ : 0 < ∑ q, (if W q then Real.exp (ρ q) else 0) :=
    Finset.sum_pos' (fun q _ => by split_ifs; exacts [(Real.exp_pos _).le, le_rfl]) ⟨x0, Finset.mem_univ _, by rw [if_pos hx0]; exact Real.exp_pos _⟩
  simp only [he, zero_add]
  rw [← coe_fsum, ← Finset.sum_mul]
  by_cases h : W p
  · simp only [if_pos h]
    have hp : 0 < (∑ q, (if W q then Real.exp (ρ q) else 0)) * Real.exp (-μ) := mul_pos hZ (Real.exp_pos _)
    rw [Ideal.div_coe hp.ne', ← EReal.coe_mul]
    congr 1
    have := (Real.exp_pos (-μ)).ne'
    field_simp
  · simp only [if_neg h, zero_div, EReal.coe_zero]

/-- A tile's score to the base two: the scaled product of key and query and the two bias columns. -/
theorem score (f g : Fin 128 → EReal) (kr qr : Fin 64 → ℝ) (σ p kk : ℝ) (hf : ∀ j : Fin 64, f ⟨j.val, by omega⟩ = (kr j : EReal))
    (hg : ∀ j : Fin 64, g ⟨j.val, by omega⟩ = ((qr j * (1 / 8 * lam) : ℝ) : EReal))
    (f64 : f ⟨64, by omega⟩ = 1) (f65 : f ⟨65, by omega⟩ = (kk : EReal)) (g64 : g ⟨64, by omega⟩ = ((-(σ * lam) * p : ℝ) : EReal)) (g65 : g ⟨65, by omega⟩ = ((σ * lam : ℝ) : EReal))
    (gz : ∀ j : Fin 128, 66 ≤ j.val → g j = 0) :
    ∑ j, f j * g j = ((lam * ((∑ j, qr j * kr j) / 8 + σ * (kk - p)) : ℝ) : EReal) := by
  have h : ∑ j, f j * g j = (∑ j : Fin 64, f (Fin.castAdd 64 j) * g (Fin.castAdd 64 j)) + ∑ j : Fin 64, f (Fin.natAdd 64 j) * g (Fin.natAdd 64 j) :=
    Fin.sum_univ_add (a := 64) (b := 64) (fun j => f j * g j)
  have h1 : (∑ j : Fin 64, f (Fin.castAdd 64 j) * g (Fin.castAdd 64 j)) = ((∑ j, kr j * (qr j * (1 / 8 * lam)) : ℝ) : EReal) := by
    rw [coe_fsum]
    refine Finset.sum_congr rfl fun j _ => ?_
    rw [EReal.coe_mul]
    exact congrArg₂ (· * ·) (hf j) (hg j)
  have h2 : (∑ j : Fin 64, f (Fin.natAdd 64 j) * g (Fin.natAdd 64 j)) = ((-(σ * lam) * p + kk * (σ * lam) : ℝ) : EReal) := by
    rw [Fin.sum_univ_succ, Fin.sum_univ_succ, Finset.sum_eq_zero, add_zero, EReal.coe_add, EReal.coe_mul kk]
    · refine congrArg₂ (· + ·) ?_ ?_
      · refine (congrArg₂ (· * ·) f64 g64).trans (one_mul _)
      · exact congrArg₂ (· * ·) f65 g65
    · intro j _
      have : g (Fin.natAdd 64 j.succ.succ) = 0 := gz _ (by simp [Fin.natAdd]; omega)
      rw [this, mul_zero]
  rw [h, h1, h2, ← EReal.coe_add]
  congr 1
  have : ∑ j, kr j * (qr j * (1 / 8 * lam)) = (∑ j, qr j * kr j) * (1 / 8 * lam) := by
    rw [Finset.sum_mul]
    exact Finset.sum_congr rfl fun j _ => by ring
  rw [this]
  ring

end Cert.Proof.WinV

end
-- ==== Proof.WinQ.lean ====
module

public import proofs.«01_k».proof.Proof.Gen.WinIdeal.Value
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.Proof.WinV

open Cert.WinIdeal Cert.WinIdeal.Gen Idealize.ShloMosaic Idealize.ShloMosaic.TcCoe Idealize.SL.Sem
open Idealize.ShloMosaic.Pipeline (Dat)

theorem slope1_eq : Named.named (F := Ideal) κ "slope1" (φ := .f32) 0x3F38AA3B#32 = (((1 / 2) * (Real.log 2)⁻¹ : ℝ) : EReal) :=
  IdealRules.named_const.ideal_named_scalar _ _ _ _ rfl

theorem minus1_eq : Named.named (F := Ideal) κ "minus1" (φ := .f32) 0xBF38AA3B#32 = ((-((1 / 2) * (Real.log 2)⁻¹) : ℝ) : EReal) :=
  IdealRules.named_const.ideal_named_scalar _ _ _ _ rfl

theorem slope2_eq : Named.named (F := Ideal) κ "slope2" (φ := .f32) 0x3EB8AA3B#32 = (((1 / 4) * (Real.log 2)⁻¹ : ℝ) : EReal) :=
  IdealRules.named_const.ideal_named_scalar _ _ _ _ rfl

theorem minus2_eq : Named.named (F := Ideal) κ "minus2" (φ := .f32) 0xBEB8AA3B#32 = ((-((1 / 4) * (Real.log 2)⁻¹) : ℝ) : EReal) :=
  IdealRules.named_const.ideal_named_scalar _ _ _ _ rfl

theorem slope3_eq : Named.named (F := Ideal) κ "slope3" (φ := .f32) 0x3E38AA3B#32 = (((1 / 8) * (Real.log 2)⁻¹ : ℝ) : EReal) :=
  IdealRules.named_const.ideal_named_scalar _ _ _ _ rfl

theorem minus3_eq : Named.named (F := Ideal) κ "minus3" (φ := .f32) 0xBE38AA3B#32 = ((-((1 / 8) * (Real.log 2)⁻¹) : ℝ) : EReal) :=
  IdealRules.named_const.ideal_named_scalar _ _ _ _ rfl

theorem slope4_eq : Named.named (F := Ideal) κ "slope4" (φ := .f32) 0x3DB8AA3B#32 = (((1 / 16) * (Real.log 2)⁻¹ : ℝ) : EReal) :=
  IdealRules.named_const.ideal_named_scalar _ _ _ _ rfl

theorem minus4_eq : Named.named (F := Ideal) κ "minus4" (φ := .f32) 0xBDB8AA3B#32 = ((-((1 / 16) * (Real.log 2)⁻¹) : ℝ) : EReal) :=
  IdealRules.named_const.ideal_named_scalar _ _ _ _ rfl

theorem slope5_eq : Named.named (F := Ideal) κ "slope5" (φ := .f32) 0x3D38AA3B#32 = (((1 / 32) * (Real.log 2)⁻¹ : ℝ) : EReal) :=
  IdealRules.named_const.ideal_named_scalar _ _ _ _ rfl

theorem minus5_eq : Named.named (F := Ideal) κ "minus5" (φ := .f32) 0xBD38AA3B#32 = ((-((1 / 32) * (Real.log 2)⁻¹) : ℝ) : EReal) :=
  IdealRules.named_const.ideal_named_scalar _ _ _ _ rfl

theorem slope6_eq : Named.named (F := Ideal) κ "slope6" (φ := .f32) 0x3CB8AA3B#32 = (((1 / 64) * (Real.log 2)⁻¹ : ℝ) : EReal) :=
  IdealRules.named_const.ideal_named_scalar _ _ _ _ rfl

theorem minus6_eq : Named.named (F := Ideal) κ "minus6" (φ := .f32) 0xBCB8AA3B#32 = ((-((1 / 64) * (Real.log 2)⁻¹) : ℝ) : EReal) :=
  IdealRules.named_const.ideal_named_scalar _ _ _ _ rfl

theorem slope7_eq : Named.named (F := Ideal) κ "slope7" (φ := .f32) 0x3C38AA3B#32 = (((1 / 128) * (Real.log 2)⁻¹ : ℝ) : EReal) :=
  IdealRules.named_const.ideal_named_scalar _ _ _ _ rfl

theorem minus7_eq : Named.named (F := Ideal) κ "minus7" (φ := .f32) 0xBC38AA3B#32 = ((-((1 / 128) * (Real.log 2)⁻¹) : ℝ) : EReal) :=
  IdealRules.named_const.ideal_named_scalar _ _ _ _ rfl

theorem slope8_eq : Named.named (F := Ideal) κ "slope8" (φ := .f32) 0x3BB8AA3B#32 = (((1 / 256) * (Real.log 2)⁻¹ : ℝ) : EReal) :=
  IdealRules.named_const.ideal_named_scalar _ _ _ _ rfl

theorem minus8_eq : Named.named (F := Ideal) κ "minus8" (φ := .f32) 0xBBB8AA3B#32 = ((-((1 / 256) * (Real.log 2)⁻¹) : ℝ) : EReal) :=
  IdealRules.named_const.ideal_named_scalar _ _ _ _ rfl

theorem mask_eq : Named.named (F := Ideal) κ "mask" (φ := .f32) 0xF149F2CA#32 = (⊥ : EReal) :=
  IdealRules.named_const.ideal_named_scalar _ _ _ _ rfl

theorem neg_inf : Ideal.ofBits .f32 0xFF800000#32 = (⊥ : EReal) := by
  simp [Ideal.ofBits, Ideal.ieee]

theorem pick (j k : Fin 256) : IntOp.cmpi CmpIPredicate.eq (BitVec.ofNat 32 j.val) (BitVec.ofNat 32 k.val) = if j.val = k.val then 1#1 else 0#1 := by
  have h : (BitVec.ofNat 32 j.val = BitVec.ofNat 32 k.val) ↔ j.val = k.val := by
    rw [← BitVec.toNat_inj, BitVec.toNat_ofNat, BitVec.toNat_ofNat, Nat.mod_eq_of_lt (by omega), Nat.mod_eq_of_lt (by omega)]
  by_cases e : j.val = k.val
  · rw [e, if_pos rfl]; simp [IntOp.cmpi]
  · rw [if_neg e]
    have : ¬ BitVec.ofNat 32 j.val = BitVec.ofNat 32 k.val := fun hh => e (h.mp hh)
    simp only [IntOp.cmpi, beq_eq_false_iff_ne.mpr this]; rfl

theorem toInt_small : ∀ p : Fin 256, (BitVec.ofNat 32 p.val).toInt = (p.val : ℤ) := by decide +kernel

theorem bias (A B : EReal) (b : ℝ) (p : Fin 256) (n : ℕ) (j : Fin 64) (hn : n = p.val) (hA : A = ((-b : ℝ) : EReal)) (hB : B = (b : EReal)) :
    Scalar.select (IntOp.cmpi CmpIPredicate.eq (BitVec.ofNat 32 j.val) 0#32) (A * FloatOps.sitofp (F := Ideal) FTy.f32 (BitVec.ofNat 32 n))
      (Scalar.select (IntOp.cmpi CmpIPredicate.eq (BitVec.ofNat 32 j.val) 1#32) B (Scalar.select (IntOp.cmpi CmpIPredicate.eq (BitVec.ofNat 32 j.val) 2#32) (B - B) 0))
      = if j.val = 0 then ((-b * p.val : ℝ) : EReal) else if j.val = 1 then (b : EReal) else 0 := by
  subst hn hA hB
  have e0 := pick ⟨j.val, by omega⟩ ⟨0, by omega⟩
  have e1 := pick ⟨j.val, by omega⟩ ⟨1, by omega⟩
  have e2 := pick ⟨j.val, by omega⟩ ⟨2, by omega⟩
  dsimp only at e0 e1 e2
  have hs : FloatOps.sitofp (F := Ideal) FTy.f32 (BitVec.ofNat 32 p.val) = (((p.val : ℝ)) : EReal) := by
    show ((((BitVec.ofNat 32 p.val).toInt : ℝ)) : EReal) = _
    rw [toInt_small]; norm_num
  have hz : ((b : EReal) - (b : EReal)) = 0 := by rw [← EReal.coe_sub, sub_self, EReal.coe_zero]
  rw [hs, hz]
  change Scalar.select (IntOp.cmpi CmpIPredicate.eq (BitVec.ofNat 32 j.val) (BitVec.ofNat 32 0)) _ (Scalar.select (IntOp.cmpi CmpIPredicate.eq (BitVec.ofNat 32 j.val) (BitVec.ofNat 32 1)) _ (Scalar.select (IntOp.cmpi CmpIPredicate.eq (BitVec.ofNat 32 j.val) (BitVec.ofNat 32 2)) _ _)) = _
  rw [e0, e1, e2, EReal.coe_mul]
  split_ifs <;> simp [Scalar.select]

abbrev blockOf (r : ℕ) : BitVec 32 :=
  Scalar.select
          (IntOp.andi
            (IntOp.cmpi CmpIPredicate.ne
              (IntOp.subi (BitVec.setWidth 32 (IntOp.cmpi CmpIPredicate.sgt (BitVec.ofNat 32 r) 0#32))
                (BitVec.setWidth 32 (IntOp.cmpi CmpIPredicate.slt (BitVec.ofNat 32 r) 0#32)))
              (Scalar.subi (Scalar.extui (Scalar.cmpi CmpIPredicate.sgt 256#32 0#32))
                (Scalar.extui (Scalar.cmpi CmpIPredicate.slt 256#32 0#32))))
            (IntOp.cmpi CmpIPredicate.ne (IntOp.remsi ArithUnit.vector (BitVec.ofNat 32 r) 256#32) 0#32))
          (IntOp.subi (IntOp.divsi ArithUnit.vector (BitVec.ofNat 32 r) 256#32) 1#32)
          (IntOp.divsi ArithUnit.vector (BitVec.ofNat 32 r) 256#32)

theorem blockOf_eq : ∀ r : Fin 1024, blockOf r.val = BitVec.ofNat 32 (r.val / 256) := by decide +kernel

abbrev within (r : ℕ) : BitVec 32 :=
  Scalar.select
        (IntOp.andi
          (IntOp.xori
            (IntOp.cmpi CmpIPredicate.slt
              (IntOp.remsi ArithUnit.vector (BitVec.ofNat 32 r)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 r)
              (Scalar.select (Scalar.cmpi CmpIPredicate.eq 256#32 0#32) 1#32 256#32))
            0#32))
        (IntOp.addi
          (IntOp.remsi ArithUnit.vector (BitVec.ofNat 32 r)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 r)
          (Scalar.select (Scalar.cmpi CmpIPredicate.eq 256#32 0#32) 1#32 256#32))

theorem within_eq : ∀ r : Fin 1024, within r.val = BitVec.ofNat 32 (r.val % 256) := by decide +kernel

theorem cmp_small (x y : Fin 256) : IntOp.cmpi CmpIPredicate.sle (BitVec.ofNat 32 x.val) (BitVec.ofNat 32 y.val) = if x.val ≤ y.val then 1#1 else 0#1 := by
  have h : (BitVec.ofNat 32 x.val).sle (BitVec.ofNat 32 y.val) = decide (x.val ≤ y.val) := by
    rw [BitVec.sle, toInt_small, toInt_small]; simp
  by_cases e : x.val ≤ y.val <;> simp [IntOp.cmpi, h, e]

theorem cmp_small' (x y : Fin 256) : IntOp.cmpi CmpIPredicate.sgt (BitVec.ofNat 32 x.val) (BitVec.ofNat 32 y.val) = if y.val < x.val then 1#1 else 0#1 := by
  have h : (BitVec.ofNat 32 y.val).slt (BitVec.ofNat 32 x.val) = decide (y.val < x.val) := by
    rw [BitVec.slt, toInt_small, toInt_small]; simp
  by_cases e : y.val < x.val <;> simp [IntOp.cmpi, h, e]

theorem q00 (L0 L1 L2 L3 : FVec Ideal S256x64 .f32) (p : Fin 256) (j : Fin 64) :
    (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32) (ix3 0 ⟨0 + p.val, by omega⟩ ⟨j.val, by omega⟩) : EReal) = L0 (ix2 p j) * Named.named (F := Ideal) κ "slope3" (φ := .f32) 0x3E38AA3B#32 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]

theorem qb00 (L0 L1 L2 L3 : FVec Ideal S256x64 .f32) (p : Fin 256) (j : Fin 64) :
    (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32) (ix3 0 ⟨0 + p.val, by omega⟩ ⟨64 + j.val, by omega⟩) : EReal) = if j.val = 0 then ((-((1 / 2) * (Real.log 2)⁻¹) * p.val : ℝ) : EReal) else if j.val = 1 then (((1 / 2) * (Real.log 2)⁻¹ : ℝ) : EReal) else 0 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  generalize hR : (ite (j.val = 0) _ _ : EReal) = R
  repeat' split
  all_goals first
    | (exfalso; omega)
    | exact (bias _ _ _ p _ j (by omega) minus1_eq slope1_eq).trans hR

theorem q01 (L0 L1 L2 L3 : FVec Ideal S256x64 .f32) (p : Fin 256) (j : Fin 64) :
    (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32) (ix3 0 ⟨256 + p.val, by omega⟩ ⟨j.val, by omega⟩) : EReal) = L1 (ix2 p j) * Named.named (F := Ideal) κ "slope3" (φ := .f32) 0x3E38AA3B#32 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]

theorem qb01 (L0 L1 L2 L3 : FVec Ideal S256x64 .f32) (p : Fin 256) (j : Fin 64) :
    (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32) (ix3 0 ⟨256 + p.val, by omega⟩ ⟨64 + j.val, by omega⟩) : EReal) = if j.val = 0 then ((-((1 / 4) * (Real.log 2)⁻¹) * p.val : ℝ) : EReal) else if j.val = 1 then (((1 / 4) * (Real.log 2)⁻¹ : ℝ) : EReal) else 0 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  generalize hR : (ite (j.val = 0) _ _ : EReal) = R
  repeat' split
  all_goals first
    | (exfalso; omega)
    | exact (bias _ _ _ p _ j (by omega) minus2_eq slope2_eq).trans hR

theorem q02 (L0 L1 L2 L3 : FVec Ideal S256x64 .f32) (p : Fin 256) (j : Fin 64) :
    (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32) (ix3 0 ⟨512 + p.val, by omega⟩ ⟨j.val, by omega⟩) : EReal) = L2 (ix2 p j) * Named.named (F := Ideal) κ "slope3" (φ := .f32) 0x3E38AA3B#32 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  repeat' split
  all_goals first
    | (exfalso; omega)
    | (refine congrArg (fun x : Fin 256 => L2 (ix2 x j) * Named.named (F := Ideal) κ "slope3" (φ := .f32) 0x3E38AA3B#32) (Fin.ext ?_)
       dsimp only
       omega)

theorem qb02 (L0 L1 L2 L3 : FVec Ideal S256x64 .f32) (p : Fin 256) (j : Fin 64) :
    (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32) (ix3 0 ⟨512 + p.val, by omega⟩ ⟨64 + j.val, by omega⟩) : EReal) = if j.val = 0 then ((-((1 / 8) * (Real.log 2)⁻¹) * p.val : ℝ) : EReal) else if j.val = 1 then (((1 / 8) * (Real.log 2)⁻¹ : ℝ) : EReal) else 0 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  generalize hR : (ite (j.val = 0) _ _ : EReal) = R
  repeat' split
  all_goals first
    | (exfalso; omega)
    | exact (bias _ _ _ p _ j (by omega) minus3_eq slope3_eq).trans hR

theorem q03 (L0 L1 L2 L3 : FVec Ideal S256x64 .f32) (p : Fin 256) (j : Fin 64) :
    (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32) (ix3 0 ⟨768 + p.val, by omega⟩ ⟨j.val, by omega⟩) : EReal) = L3 (ix2 p j) * Named.named (F := Ideal) κ "slope3" (φ := .f32) 0x3E38AA3B#32 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  repeat' split
  all_goals first
    | (exfalso; omega)
    | (refine congrArg (fun x : Fin 256 => L3 (ix2 x j) * Named.named (F := Ideal) κ "slope3" (φ := .f32) 0x3E38AA3B#32) (Fin.ext ?_)
       dsimp only
       omega)

theorem qb03 (L0 L1 L2 L3 : FVec Ideal S256x64 .f32) (p : Fin 256) (j : Fin 64) :
    (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32) (ix3 0 ⟨768 + p.val, by omega⟩ ⟨64 + j.val, by omega⟩) : EReal) = if j.val = 0 then ((-((1 / 16) * (Real.log 2)⁻¹) * p.val : ℝ) : EReal) else if j.val = 1 then (((1 / 16) * (Real.log 2)⁻¹ : ℝ) : EReal) else 0 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  generalize hR : (ite (j.val = 0) _ _ : EReal) = R
  repeat' split
  all_goals first
    | (exfalso; omega)
    | exact (bias _ _ _ p _ j (by omega) minus4_eq slope4_eq).trans hR

theorem q10 (L0 L1 L2 L3 : FVec Ideal S256x64 .f32) (p : Fin 256) (j : Fin 64) :
    (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3 (ix3 0 ⟨0 + p.val, by omega⟩ ⟨j.val, by omega⟩) : EReal) = L0 (ix2 p j) * Named.named (F := Ideal) κ "slope3" (φ := .f32) 0x3E38AA3B#32 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]

theorem qb10 (L0 L1 L2 L3 : FVec Ideal S256x64 .f32) (p : Fin 256) (j : Fin 64) :
    (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3 (ix3 0 ⟨0 + p.val, by omega⟩ ⟨64 + j.val, by omega⟩) : EReal) = if j.val = 0 then ((-((1 / 32) * (Real.log 2)⁻¹) * p.val : ℝ) : EReal) else if j.val = 1 then (((1 / 32) * (Real.log 2)⁻¹ : ℝ) : EReal) else 0 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  generalize hR : (ite (j.val = 0) _ _ : EReal) = R
  repeat' split
  all_goals first
    | (exfalso; omega)
    | exact (bias _ _ _ p _ j (by omega) minus5_eq slope5_eq).trans hR

theorem q11 (L0 L1 L2 L3 : FVec Ideal S256x64 .f32) (p : Fin 256) (j : Fin 64) :
    (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3 (ix3 0 ⟨256 + p.val, by omega⟩ ⟨j.val, by omega⟩) : EReal) = L1 (ix2 p j) * Named.named (F := Ideal) κ "slope3" (φ := .f32) 0x3E38AA3B#32 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]

theorem qb11 (L0 L1 L2 L3 : FVec Ideal S256x64 .f32) (p : Fin 256) (j : Fin 64) :
    (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3 (ix3 0 ⟨256 + p.val, by omega⟩ ⟨64 + j.val, by omega⟩) : EReal) = if j.val = 0 then ((-((1 / 64) * (Real.log 2)⁻¹) * p.val : ℝ) : EReal) else if j.val = 1 then (((1 / 64) * (Real.log 2)⁻¹ : ℝ) : EReal) else 0 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  generalize hR : (ite (j.val = 0) _ _ : EReal) = R
  repeat' split
  all_goals first
    | (exfalso; omega)
    | exact (bias _ _ _ p _ j (by omega) minus6_eq slope6_eq).trans hR

theorem q12 (L0 L1 L2 L3 : FVec Ideal S256x64 .f32) (p : Fin 256) (j : Fin 64) :
    (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3 (ix3 0 ⟨512 + p.val, by omega⟩ ⟨j.val, by omega⟩) : EReal) = L2 (ix2 p j) * Named.named (F := Ideal) κ "slope3" (φ := .f32) 0x3E38AA3B#32 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  repeat' split
  all_goals first
    | (exfalso; omega)
    | (refine congrArg (fun x : Fin 256 => L2 (ix2 x j) * Named.named (F := Ideal) κ "slope3" (φ := .f32) 0x3E38AA3B#32) (Fin.ext ?_)
       dsimp only
       omega)

theorem qb12 (L0 L1 L2 L3 : FVec Ideal S256x64 .f32) (p : Fin 256) (j : Fin 64) :
    (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3 (ix3 0 ⟨512 + p.val, by omega⟩ ⟨64 + j.val, by omega⟩) : EReal) = if j.val = 0 then ((-((1 / 128) * (Real.log 2)⁻¹) * p.val : ℝ) : EReal) else if j.val = 1 then (((1 / 128) * (Real.log 2)⁻¹ : ℝ) : EReal) else 0 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  generalize hR : (ite (j.val = 0) _ _ : EReal) = R
  repeat' split
  all_goals first
    | (exfalso; omega)
    | exact (bias _ _ _ p _ j (by omega) minus7_eq slope7_eq).trans hR

theorem q13 (L0 L1 L2 L3 : FVec Ideal S256x64 .f32) (p : Fin 256) (j : Fin 64) :
    (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3 (ix3 0 ⟨768 + p.val, by omega⟩ ⟨j.val, by omega⟩) : EReal) = L3 (ix2 p j) * Named.named (F := Ideal) κ "slope3" (φ := .f32) 0x3E38AA3B#32 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  repeat' split
  all_goals first
    | (exfalso; omega)
    | (refine congrArg (fun x : Fin 256 => L3 (ix2 x j) * Named.named (F := Ideal) κ "slope3" (φ := .f32) 0x3E38AA3B#32) (Fin.ext ?_)
       dsimp only
       omega)

theorem qb13 (L0 L1 L2 L3 : FVec Ideal S256x64 .f32) (p : Fin 256) (j : Fin 64) :
    (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3 (ix3 0 ⟨768 + p.val, by omega⟩ ⟨64 + j.val, by omega⟩) : EReal) = if j.val = 0 then ((-((1 / 256) * (Real.log 2)⁻¹) * p.val : ℝ) : EReal) else if j.val = 1 then (((1 / 256) * (Real.log 2)⁻¹ : ℝ) : EReal) else 0 := by
  pointwise [k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
  generalize hR : (ite (j.val = 0) _ _ : EReal) = R
  repeat' split
  all_goals first
    | (exfalso; omega)
    | exact (bias _ _ _ p _ j (by omega) minus8_eq slope8_eq).trans hR

theorem choose (A B C D : EReal) (r : Fin 1024) (a : ℕ → ℝ) (hA : A = (a 0 : EReal)) (hB : B = (a 1 : EReal)) (hC : C = (a 2 : EReal)) (hD : D = (a 3 : EReal)) :
    Scalar.select (IntOp.cmpi CmpIPredicate.eq (blockOf r.val) 0#32) A (Scalar.select (IntOp.cmpi CmpIPredicate.eq (blockOf r.val) 1#32) B (Scalar.select (IntOp.cmpi CmpIPredicate.eq (blockOf r.val) 2#32) C D))
      = (a (r.val / 256) : EReal) := by
  rw [blockOf_eq, hA, hB, hC, hD]
  have h : r.val / 256 = 0 ∨ r.val / 256 = 1 ∨ r.val / 256 = 2 ∨ r.val / 256 = 3 := by omega
  rcases h with h | h | h | h <;> rw [h] <;> simp [Scalar.select, IntOp.cmpi]

theorem slope0 (r : Fin 1024) : (k0_pay89 (F := Ideal) k0_pay87 (ix2 0 r) : EReal) = (((1 / 2 ^ (r.val / 256 + 1)) * (Real.log 2)⁻¹ : ℝ) : EReal) := by
  pointwise [k0_pay89, k0_pay87]
  exact choose _ _ _ _ r (fun n => (1 / 2 ^ (n + 1)) * (Real.log 2)⁻¹) (slope1_eq.trans (by norm_num)) (slope2_eq.trans (by norm_num)) (slope3_eq.trans (by norm_num)) (slope4_eq.trans (by norm_num))

theorem slope1 (r : Fin 1024) : (k0_pay98 (F := Ideal) k0_pay87 (ix2 0 r) : EReal) = (((1 / 2 ^ (r.val / 256 + 5)) * (Real.log 2)⁻¹ : ℝ) : EReal) := by
  pointwise [k0_pay98, k0_pay87]
  exact choose _ _ _ _ r (fun n => (1 / 2 ^ (n + 5)) * (Real.log 2)⁻¹) (slope5_eq.trans (by norm_num)) (slope6_eq.trans (by norm_num)) (slope7_eq.trans (by norm_num)) (slope8_eq.trans (by norm_num))

theorem diag (x : Fin 256) (r : Fin 1024) : (k0_pay113 k0_pay86 (iota Kind.tc S256x1024 32 [0] iota_S256x1024_d0_w32) (ix2 x r)) = if x.val ≤ r.val % 256 then 1#1 else 0#1 := by
  pointwise [k0_pay113, k0_pay86]
  exact (congrArg (IntOp.cmpi CmpIPredicate.sle (BitVec.ofNat 32 x.val)) (within_eq r)).trans (cmp_small x ⟨r.val % 256, Nat.mod_lt _ (by omega)⟩)

theorem upper (x : Fin 256) (r : Fin 1024) : (k0_pay48 k0_pay86 (iota Kind.tc S256x1024 32 [0] iota_S256x1024_d0_w32) (ix2 x r)) = if r.val % 256 < x.val then 1#1 else 0#1 := by
  pointwise [k0_pay48, k0_pay86]
  exact (congrArg (IntOp.cmpi CmpIPredicate.sgt (BitVec.ofNat 32 x.val)) (within_eq r)).trans (cmp_small' x ⟨r.val % 256, Nat.mod_lt _ (by omega)⟩)

end Cert.Proof.WinV

end
-- ==== Proof.WinDef.lean ====
module

public import proofs.«01_k».proof.Proof.Gen.Pre_win_keys
public import proofs.«01_k».proof.Proof.WinMath
public import proofs.«01_k».proof.Proof.Gen.WinRefIdeal.Read
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.Proof.WinV

open Cert.WinRefIdeal Cert.WinRefIdeal.Gen Cert.WinRefIdeal.Read Idealize.ShloMosaic Idealize.ShloMosaic.TcCoe Idealize.SL.Sem
open Idealize.ShloMosaic.Pipeline (Dat)

/-- A query, as a real number. -/
def qr (x0 : FVec Ideal S16384x1280 .f32) (b : Fin 4) (g : Fin 2) (h : Fin 4) (q : Fin 4096) (j : Fin 64) : ℝ :=
  (x0 (ix2 ⟨b.val * 4096 + q.val, by omega⟩ ⟨g.val * 256 + h.val * 64 + j.val, by omega⟩) : EReal).toReal

/-- A key, as a real number. -/
def kr (x1 : FVec Ideal S4x2x4096x128 .bf16) (b : Fin 4) (g : Fin 2) (p : Fin 4096) (j : Fin 64) : ℝ :=
  (x1 (ix4 b g p ⟨j.val, by omega⟩) : EReal).toReal

/-- The positions a query sees. -/
def sees (q p : Fin 4096) : Prop := p.val ≤ q.val ∧ q.val - p.val < 512

instance (q : Fin 4096) : DecidablePred (sees q) := fun p => inferInstanceAs (Decidable (p.val ≤ q.val ∧ q.val - p.val < 512))

/-- A head's slope. -/
def sl (g : Fin 2) (h : Fin 4) : ℝ := 1 / 2 ^ (4 * g.val + h.val + 1)

/-- A score. -/
def rho (x0 : FVec Ideal S16384x1280 .f32) (x1 : FVec Ideal S4x2x4096x128 .bf16) (b : Fin 4) (g : Fin 2) (h : Fin 4) (q p : Fin 4096) : ℝ :=
  (∑ j, qr x0 b g h q j * kr x1 b g p j) / 8 + sl g h * ((p.val : ℝ) - q.val)

/-- A value. -/
def va (x0 : FVec Ideal S16384x1280 .f32) (b : Fin 4) (g : Fin 2) (d : Fin 64) (p : Fin 4096) : EReal :=
  x0 (ix2 ⟨b.val * 4096 + p.val, by omega⟩ ⟨1152 + (g.val * 64 + d.val), by omega⟩)

/-- A query's output: its values, weighted by the softmax of its scores over the positions it sees. -/
def att (x0 : FVec Ideal S16384x1280 .f32) (x1 : FVec Ideal S4x2x4096x128 .bf16) (b : Fin 4) (g : Fin 2) (h : Fin 4) (q : Fin 4096) (d : Fin 64) : EReal :=
  ∑ p, va x0 b g d p * (((if sees q p then Real.exp (rho x0 x1 b g h q p) else 0) / ∑ p', (if sees q p' then Real.exp (rho x0 x1 b g h q p') else 0) : ℝ) : EReal)

/-- Queries and keys are real, and the two bias columns hold what they are prepared with. -/
structure Good (x0 : FVec Ideal S16384x1280 .f32) (x1 : FVec Ideal S4x2x4096x128 .bf16) : Prop where
  hk : ∀ b g p (j : Fin 64), (x1 (ix4 b g p ⟨j.val, by omega⟩) : EReal) = (kr x1 b g p j : EReal)
  h64 : ∀ b g p, (x1 (ix4 b g p ⟨64, by omega⟩) : EReal) = 1
  h65 : ∀ b g (p : Fin 4096), (x1 (ix4 b g p ⟨65, by omega⟩) : EReal) = (((p.val % 256 : ℕ) : ℝ) : EReal)
  hq : ∀ (b : Fin 4) (g : Fin 2) (h : Fin 4) (q : Fin 4096) (j : Fin 64), (x0 (ix2 ⟨b.val * 4096 + q.val, by omega⟩ ⟨g.val * 256 + h.val * 64 + j.val, by omega⟩) : EReal) = (qr x0 b g h q j : EReal)

theorem inf_neg : Ideal.ofBits .f32 0xFF800000#32 = (⊥ : EReal) := by simp [Ideal.ofBits, Ideal.ieee]

theorem inf_pos : Ideal.ofBits .f32 0x7F800000#32 = (⊤ : EReal) := by simp [Ideal.ofBits, Ideal.ieee]

theorem eight : Ideal.ofBits .f32 0x41000000#32 = ((8 : ℝ) : EReal) := by
  simp [Ideal.ofBits, Ideal.ieee]; rw [← EReal.coe_mul]; norm_num

theorem toInt_pos : ∀ p : Fin 4096, (BitVec.ofNat 32 p.val).toInt = (p.val : ℤ) := by decide +kernel

theorem toInt_diff (q p : Fin 4096) : (IntOp.subi (BitVec.ofNat 32 q.val) (BitVec.ofNat 32 p.val)).toInt = (q.val : ℤ) - p.val := by
  show (BitVec.ofNat 32 q.val - BitVec.ofNat 32 p.val).toInt = _
  rw [BitVec.toInt_sub, toInt_pos, toInt_pos]
  apply Int.bmod_eq_of_le <;> omega

theorem toInt_slope : ∀ (g : Fin 2) (h : Fin 4), (IntOp.shli ArithUnit.host (2#32) (BitVec.ofNat 32 (g.val * 4 + h.val))).toInt = 2 ^ (4 * g.val + h.val + 1) := by decide +kernel

theorem mask_bit (q p : Fin 4096) :
    IntOp.andi (IntOp.cmpi CmpIPredicate.sge (IntOp.subi (BitVec.ofNat 32 q.val) (BitVec.ofNat 32 p.val)) 0#32)
        (IntOp.cmpi CmpIPredicate.slt (IntOp.subi (BitVec.ofNat 32 q.val) (BitVec.ofNat 32 p.val)) 512#32) = if sees q p then 1#1 else 0#1 := by
  have e := toInt_diff q p
  generalize IntOp.subi (BitVec.ofNat 32 q.val) (BitVec.ofNat 32 p.val) = z at e
  have h1 : (0#32).sle z = decide (p.val ≤ q.val) := by
    rw [BitVec.sle, e, Bool.eq_iff_iff, decide_eq_true_iff, decide_eq_true_iff]; simp
  have h2 : z.slt 512#32 = decide ((q.val : ℤ) - p.val < 512) := by
    rw [BitVec.slt, e]; rfl
  simp only [IntOp.andi, IntOp.cmpi, h1, h2]
  by_cases a : p.val ≤ q.val
  · by_cases b : q.val - p.val < 512
    · rw [if_pos ⟨a, b⟩, decide_eq_true a, decide_eq_true (show (q.val : ℤ) - p.val < 512 by omega)]; rfl
    · rw [if_neg (fun h => b h.2), decide_eq_true a, decide_eq_false (show ¬ (q.val : ℤ) - p.val < 512 by omega)]; rfl
  · rw [if_neg (fun h => a h.1), decide_eq_false a]
    generalize decide ((q.val : ℤ) - p.val < 512) = w
    cases w <;> rfl

theorem select_if {α : Type} (P : Prop) [Decidable P] (a b : α) : Scalar.select (if P then 1#1 else 0#1) a b = if P then a else b := by
  split_ifs <;> rfl

end Cert.Proof.WinV

end
-- ==== Proof.WinScore.lean ====
module

public import proofs.«01_k».proof.Proof.Gen.Pre_win_keys
public import proofs.«01_k».proof.Proof.WinDef
public import proofs.«01_k».proof.Proof.Gen.WinRefIdeal.Read
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.Proof.WinV

open Cert.WinRefIdeal Cert.WinRefIdeal.Gen Cert.WinRefIdeal.Read Idealize.ShloMosaic Idealize.ShloMosaic.TcCoe Idealize.SL.Sem
open Idealize.ShloMosaic.Pipeline (Dat)

theorem score_ref (x0 : FVec Ideal S16384x1280 .f32) (x1 : FVec Ideal S4x2x4096x128 .bf16) (H : Good x0 x1) (b : Fin 4) (g : Fin 2) (h : Fin 4) (q p : Fin 4096) :
    (val_main_v37 (F := Ideal) x0 x1 (ix5 b g h q p) : EReal) = if sees q p then (rho x0 x1 b g h q p : EReal) else ⊥ := by
  pointwise [val_main_v0, val_main_v1, val_main_v2, val_main_v3, val_main_v4, val_main_v5, val_main_v6, val_main_v7, val_main_v8, val_main_v9, val_main_v10, val_main_v11, val_main_c, val_main_v12, val_main_v13, val_main_c_0, val_main_v14, val_main_v15, val_main_v16, val_main_v17, val_main_v18, val_main_cst, val_main_v19, val_main_v20, val_main_v21, val_main_c_1, val_main_v22, val_main_v23, val_main_v24, val_main_cst_2, val_main_v25, val_main_v26, val_main_v27, val_main_v28, val_main_v29, val_main_v30, val_main_v31, val_main_v32, val_main_v33, val_main_v34, val_main_v35, val_main_v36, val_main_cst_3, val_main_call0_v0, val_main_call0_v1, val_main_call0_v2, val_main_v37]
  rw [mask_bit, select_if]
  refine if_congr Iff.rfl ?_ inf_neg
  have e1 : (∑ x : Fin 64, (x1 (ix4 b g p ⟨x.val, by omega⟩) : EReal) * x0 (ix2 ⟨b.val * 4096 + q.val, by omega⟩ ⟨g.val * 256 + h.val * 64 + x.val, by omega⟩)) = ((∑ j, qr x0 b g h q j * kr x1 b g p j : ℝ) : EReal) := by
    rw [coe_fsum]
    refine Finset.sum_congr rfl fun j _ => ?_
    rw [H.hk, H.hq, ← EReal.coe_mul, mul_comm]
  have e2 : FloatOps.sitofp (F := Ideal) FTy.f32 (IntOp.shli ArithUnit.host (2#32) (BitVec.ofNat 32 (g.val * 4 + h.val))) = (((2 : ℝ) ^ (4 * g.val + h.val + 1) : ℝ) : EReal) := by
    show ((((IntOp.shli ArithUnit.host (2#32) (BitVec.ofNat 32 (g.val * 4 + h.val))).toInt : ℝ)) : EReal) = _
    rw [toInt_slope]; push_cast; rfl
  have e3 : FloatOps.sitofp (F := Ideal) FTy.f32 (IntOp.subi (BitVec.ofNat 32 q.val) (BitVec.ofNat 32 p.val)) = ((((q.val : ℝ) - p.val : ℝ)) : EReal) := by
    show ((((IntOp.subi (BitVec.ofNat 32 q.val) (BitVec.ofNat 32 p.val)).toInt : ℝ)) : EReal) = _
    rw [toInt_diff]; push_cast; rfl
  rw [e1, e2, e3, eight, Ideal.div_coe (by norm_num), Ideal.div_coe (by positivity), one_mul, ← EReal.coe_mul, ← EReal.coe_mul, ← EReal.coe_sub]
  refine congrArg _ ?_
  unfold rho sl
  ring

end Cert.Proof.WinV

end
-- ==== Proof.WinTop.lean ====
module

public import proofs.«01_k».proof.Proof.Gen.Pre_win_keys
public import proofs.«01_k».proof.Proof.WinScore
public import proofs.«01_k».proof.Proof.Gen.WinRefIdeal.Read
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.Proof.WinV

open Cert.WinRefIdeal Cert.WinRefIdeal.Gen Cert.WinRefIdeal.Read Idealize.ShloMosaic Idealize.ShloMosaic.TcCoe Idealize.SL.Sem
open Idealize.ShloMosaic.Pipeline (Dat)

/-- A maximum over the last of five axes. -/
theorem maxLast {n0 n1 n2 n3 n4 : ℕ} (h : (⟨5, ![n0, n1, n2, n3, n4]⟩ : Shape).ReducesTo [4] ⟨4, ![n0, n1, n2, n3]⟩) (hu : 0 < (⟨0, ![]⟩ : Shape).numel)
    (z : FVec Ideal ⟨5, ![n0, n1, n2, n3, n4]⟩ .f32) (c : FVec Ideal ⟨0, ![]⟩ .f32) (b : Fin n0) (g : Fin n1) (k : Fin n2) (q : Fin n3) :
    (Host.reduce (α := Ideal .f32) (FloatOps.maximumf (F := Ideal) (φ := .f32)) z c h hu (ix4 b g k q) : EReal) = Finset.fold max (c (Shape.Idx.first hu) : EReal) (fun p : Fin n4 => (z (ix5 b g k q p) : EReal)) Finset.univ := by
  pointwise

theorem max_ref (x0 : FVec Ideal S16384x1280 .f32) (x1 : FVec Ideal S4x2x4096x128 .bf16) (b : Fin 4) (g : Fin 2) (h : Fin 4) (q : Fin 4096) :
    (val_main_v40 (F := Ideal) x0 x1 (ix4 b g h q) : EReal) = max ⊥ (Finset.fold max ⊥ (fun p => val_main_v37 (F := Ideal) x0 x1 (ix5 b g h q p)) Finset.univ) := by
  rw [val_main_v40_apply, val_main_v39_apply]
  unfold val_main_v38
  generalize val_main_v37 (F := Ideal) x0 x1 = z
  have e0 : (val_main_cst_5 (F := Ideal) (idx_main_v39 (ix4 b g h q)) : EReal) = ⊥ := inf_neg
  have e1 : (val_main_cst_4 (F := Ideal) (Shape.Idx.first h_S_) : EReal) = ⊥ := inf_neg
  generalize val_main_cst_4 (F := Ideal) = c4 at e1 ⊢
  rw [e0]
  refine (congrArg (fun M : EReal => max (⊥ : EReal) M) (maxLast reducesTo_S4x2x4x4096x4096_S4x2x4x4096_d4 h_S_ z c4 b g h q)).trans ?_
  rw [e1]

theorem exp_ref (x0 : FVec Ideal S16384x1280 .f32) (x1 : FVec Ideal S4x2x4096x128 .bf16) (b : Fin 4) (g : Fin 2) (h : Fin 4) (q p : Fin 4096) :
    (val_main_v44 (F := Ideal) x0 x1 (ix5 b g h q p) : EReal) = Ideal.exp ((val_main_v37 (F := Ideal) x0 x1 (ix5 b g h q p) : EReal) - val_main_v40 (F := Ideal) x0 x1 (ix4 b g h q)) := by
  unfold val_main_v44 val_main_v43 val_main_v42 val_main_v41
  generalize val_main_v37 (F := Ideal) x0 x1 = z
  generalize val_main_v40 (F := Ideal) x0 x1 = y
  pointwise

theorem den_ref (x0 : FVec Ideal S16384x1280 .f32) (x1 : FVec Ideal S4x2x4096x128 .bf16) (b : Fin 4) (g : Fin 2) (h : Fin 4) (q p : Fin 4096) :
    (val_main_v47 (F := Ideal) x0 x1 (ix5 b g h q p) : EReal) = ∑ p', (val_main_v44 (F := Ideal) x0 x1 (ix5 b g h q p') : EReal) := by
  unfold val_main_v47 val_main_v46 val_main_v45
  generalize val_main_v44 (F := Ideal) x0 x1 = z
  pointwise [val_main_cst_6]

theorem out_ref (x0 : FVec Ideal S16384x1280 .f32) (x1 : FVec Ideal S4x2x4096x128 .bf16) (b : Fin 4) (g : Fin 2) (h : Fin 4) (q : Fin 4096) (d : Fin 64) :
    (val_main_v50 (F := Ideal) x0 x1 (ix5 b g d h q) : EReal) = ∑ p, va x0 b g d p * (if sees q p then Ideal.div (val_main_v44 (F := Ideal) x0 x1 (ix5 b g h q p)) (val_main_v47 (F := Ideal) x0 x1 (ix5 b g h q p)) else 0) := by
  unfold val_main_v50 val_main_v49 val_main_v48
  generalize val_main_v44 (F := Ideal) x0 x1 = z
  generalize val_main_v47 (F := Ideal) x0 x1 = y
  pointwise [val_main_v4, val_main_v5, val_main_v6, val_main_v7, val_main_v8, val_main_v9, val_main_v10, val_main_v11, val_main_c, val_main_v12, val_main_v13, val_main_c_0, val_main_v14, val_main_v15, val_main_v16, val_main_v36, val_main_cst_7, val_main_call1_v0, val_main_call1_v1, val_main_call1_v2]
  refine Finset.sum_congr rfl fun p _ => ?_
  rw [mask_bit, select_if]
  exact congrArg (va x0 b g d p * ·) (if_congr Iff.rfl rfl (Ideal.ofBits_zero_f32))

theorem att_ref (x0 : FVec Ideal S16384x1280 .f32) (x1 : FVec Ideal S4x2x4096x128 .bf16) (H : Good x0 x1) (b : Fin 4) (g : Fin 2) (h : Fin 4) (q : Fin 4096) (d : Fin 64) :
    (val_main_v50 (F := Ideal) x0 x1 (ix5 b g d h q) : EReal) = att x0 x1 b g h q d := by
  rw [out_ref]
  refine Finset.sum_congr rfl fun p _ => congrArg (va x0 b g d p * ·) ?_
  rw [den_ref]
  simp only [exp_ref]
  rw [← soft (fun p => (val_main_v37 (F := Ideal) x0 x1 (ix5 b g h q p) : EReal)) (val_main_v40 (F := Ideal) x0 x1 (ix4 b g h q)) (rho x0 x1 b g h q) (sees q)
    ⟨q, le_refl _, by omega⟩ (fun p => score_ref x0 x1 H b g h q p) (max_ref x0 x1 b g h q) p, zero_add]

theorem idx_ref (b : Fin 4) (g : Fin 2) (h : Fin 4) (q : Fin 4096) (d : Fin 64)
    (i : Fin 16384) (j : Fin 512) (hi : i.val = b.val * 4096 + q.val) (hj : j.val = g.val * 256 + h.val * 64 + d.val) : idx_main_v51 (idx_main_v52 (ix2 i j)) = ix5 b g d h q := by
  funext a
  match a with
  | ⟨0, _⟩ => exact Fin.ext (show (i.val * 512 + j.val) / 2097152 = b.val by omega)
  | ⟨1, _⟩ => exact Fin.ext (show (i.val * 512 + j.val) / 256 % 2 = g.val by omega)
  | ⟨2, _⟩ => exact Fin.ext (show (i.val * 512 + j.val) % 64 = d.val by omega)
  | ⟨3, _⟩ => exact Fin.ext (show (i.val * 512 + j.val) / 64 % 4 = h.val by omega)
  | ⟨4, _⟩ => exact Fin.ext (show (i.val * 512 + j.val) / 512 % 4096 = q.val by omega)

theorem top_ref (x0 : FVec Ideal S16384x1280 .f32) (x1 : FVec Ideal S4x2x4096x128 .bf16) (H : Good x0 x1) (b : Fin 4) (g : Fin 2) (h : Fin 4) (q : Fin 4096) (d : Fin 64)
    (i : Fin 16384) (j : Fin 512) (hi : i.val = b.val * 4096 + q.val) (hj : j.val = g.val * 256 + h.val * 64 + d.val) :
    (val_main_v52 (F := Ideal) x0 x1 (ix2 i j) : EReal) = att x0 x1 b g h q d := by
  rw [val_main_v52_apply, val_main_v51_apply, idx_ref b g h q d i j hi hj]
  exact att_ref x0 x1 H b g h q d

end Cert.Proof.WinV

end
-- ==== Proof.WinPre.lean ====
module

public import proofs.«01_k».proof.Proof.Gen.Pre_win_keys
public import proofs.«01_k».proof.Proof.WinDef
public import proofs.«01_k».proof.Proof.Gen.WinRefIdeal.Read
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.Proof.WinV

open Cert.WinRefIdeal Cert.WinRefIdeal.Gen Cert.WinRefIdeal.Read Idealize.ShloMosaic Idealize.ShloMosaic.TcCoe Idealize.SL.Sem
open Idealize.ShloMosaic.Pipeline (Dat)

theorem toInt_rem : ∀ p : Fin 4096, (IntOp.remsi ArithUnit.host (BitVec.ofNat 32 p.val) 256#32).toInt = ((p.val % 256 : ℕ) : ℤ) := by decide +kernel

theorem abs_lt (x : EReal) (h : FloatOps.absf (F := Ideal) (φ := .f32) x < Ideal.ofBits FTy.f32 2139095040#32) : x = (x.toReal : EReal) := by
  rw [show Ideal.ofBits FTy.f32 2139095040#32 = ⊤ from inf_pos] at h
  refine (EReal.coe_toReal ?_ ?_).symm
  · rintro rfl
    exact absurd h (by simp [FloatOps.absf])
  · rintro rfl
    exact absurd h (by simp [FloatOps.absf])

theorem both (a b : BitVec 1) (h : IntOp.andi a b = 1#1) : a = 1#1 ∧ b = 1#1 := by
  revert a b; decide

theorem holds (P : Prop) [Decidable P] (h : BitVec.ofBool (decide P) = 1#1) : P := by
  by_contra hn
  rw [decide_eq_false hn] at h
  exact absurd h (by decide)

theorem good (x0 : FVec Ideal S16384x1280 .f32) (x1 : FVec Ideal S4x2x4096x128 .bf16) (hp : Cert.Pre_win_keys.fn (F := Ideal) x0 x1 = fun _ => 1#1) : Good x0 x1 := by
  have H : ∀ (b : Fin 4) (g : Fin 2) (p : Fin 4096) (d : Fin 64),
      ((x1 (ix4 b g p ⟨d.val, by omega⟩) : EReal) = (kr x1 b g p d : EReal)) ∧ (x1 (ix4 b g p ⟨64, by omega⟩) : EReal) = 1 ∧ (x1 (ix4 b g p ⟨65, by omega⟩) : EReal) = (((p.val % 256 : ℕ) : ℝ) : EReal)
        ∧ ∀ h : Fin 4, (x0 (ix2 ⟨b.val * 4096 + p.val, by omega⟩ ⟨g.val * 256 + h.val * 64 + d.val, by omega⟩) : EReal) = (qr x0 b g h p d : EReal) := by
    intro b g p d
    have h := congrFun hp (ix4 b g p d)
    revert h
    pointwise [Cert.Pre_win_keys.fn, Cert.Pre_win_keys.fn_part1, Cert.Pre_win_keys.fn_part2]
    intro h
    obtain ⟨h, q3⟩ := both _ _ h
    obtain ⟨h, q2⟩ := both _ _ h
    obtain ⟨h, q1⟩ := both _ _ h
    obtain ⟨h, q0⟩ := both _ _ h
    obtain ⟨h, k65⟩ := both _ _ h
    obtain ⟨hk, k64⟩ := both _ _ h
    refine ⟨abs_lt _ (holds _ hk), holds _ k64, (holds _ k65).trans ?_, ?_⟩
    · show ((((IntOp.remsi ArithUnit.host (BitVec.ofNat 32 p.val) 256#32).toInt : ℝ)) : EReal) = _
      rw [toInt_rem]; push_cast; rfl
    · exact ⟨abs_lt _ (holds _ q0), abs_lt _ (holds _ q1), abs_lt _ (holds _ q2), abs_lt _ (holds _ q3)⟩
  exact ⟨fun b g p j => (H b g p j).1, fun b g p => (H b g p 0).2.1, fun b g p => (H b g p 0).2.2.1, fun b g h q j => (H b g q j).2.2.2 h⟩

end Cert.Proof.WinV

end
-- ==== Proof.WinAsm.lean ====
module

public import proofs.«01_k».proof.Proof.Gen.WinIdeal.Value
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.Proof.WinV

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

/-- All rows of the accumulator. -/
abbrev wholeRows : LoadRect S128x1024 := (Rect.unit ![0, 0] ![128, 1024] inb_S128x1024_S128x1024_0_0).toLoadRect

/-- The two groups' rows, stacked. -/
theorem stacked {sp} (v : View sig .tc sp S128x1024 .f32) (R1 R0 : FVec Ideal S64x1024 .f32) (rest : List (View.Piece (Elt Ideal) S128x1024 .f32)) (a : Fin 128) (r : Fin 1024) :
    ((show FVec Ideal S128x1024 .f32 from v.readCov (Val := Elt Ideal) (⟨Rect.unit ![64, 0] ![64, 1024] inb_S128x1024_S64x1024_64_0, R1⟩ :: ⟨Rect.unit ![0, 0] ![64, 1024] inb_S128x1024_S64x1024_0_0, R0⟩ :: rest) wholeRows) (ix2 a r) : EReal)
      = if h : a.val < 64 then R0 (ix2 ⟨a.val, h⟩ r) else R1 (ix2 ⟨a.val - 64, by omega⟩ r) := by
  refine (congrFun (View.readCov_eq_canon' v _ wholeRows) (ix2 a r)).trans ?_
  show (View.canon (Val := Elt Ideal) (s := S128x1024) (e := .f32) _ (wholeRows.idx (ix2 a r)) : EReal) = _
  rcases lt_or_ge a.val 64 with h | h
  · rw [dif_pos h]
    rw [View.canon_cons_of_not_mem _ _ (by
      rw [Rect.mem_set_unit]
      intro hh
      have := (hh 0).1
      have e : 64 ≤ a.val := by simpa using this
      omega)]
    have e : wholeRows.idx (ix2 a r) = (Rect.unit (s := S128x1024) ![0, 0] ![64, 1024] inb_S128x1024_S64x1024_0_0).emb (ix2 ⟨a.val, h⟩ r) := by
      blk_ext
      all_goals first | (show 0 + _ * 1 = _; omega) | (show 0 + 1 * _ = _; omega) | (simp [wholeRows, LoadRect.idx]; done) | (simp [wholeRows, LoadRect.idx]; omega) | omega
    rw [e]
    exact View.canon_cons_emb _ _ _ _
  · rw [dif_neg (by omega)]
    have e : wholeRows.idx (ix2 a r) = (Rect.unit (s := S128x1024) ![64, 0] ![64, 1024] inb_S128x1024_S64x1024_64_0).emb (ix2 ⟨a.val - 64, by omega⟩ r) := by
      blk_ext
      all_goals first | (show 0 + _ * 1 = _; omega) | (show 0 + 1 * _ = _; omega) | (simp [wholeRows, LoadRect.idx]; done) | (simp [wholeRows, LoadRect.idx]; omega) | omega
    rw [e]
    exact View.canon_cons_emb _ _ _ _

/-- The eight stores of a point: head `h` of group `g` reads row block `h` of the group's transposed rows. -/
theorem assembled (X : FVec Ideal S128x1024 .f32) (y0 : Fin 256) (y1 : Fin 512) :
    (View.canon (Val := Elt Ideal) (e := .f32) (s := S256x512) [⟨Rect.unit ![0, 448] ![256, 64] inb_S256x512_S256x64_0_448, k0_pay134 (F := Ideal) X⟩, ⟨Rect.unit ![0, 384] ![256, 64] inb_S256x512_S256x64_0_384, k0_pay133 (F := Ideal) X⟩, ⟨Rect.unit ![0, 320] ![256, 64] inb_S256x512_S256x64_0_320, k0_pay132 (F := Ideal) X⟩, ⟨Rect.unit ![0, 256] ![256, 64] inb_S256x512_S256x64_0_256, k0_pay131 (F := Ideal) X⟩, ⟨Rect.unit ![0, 192] ![256, 64] inb_S256x512_S256x64_0_192, k0_pay130 (F := Ideal) X⟩, ⟨Rect.unit ![0, 128] ![256, 64] inb_S256x512_S256x64_0_128, k0_pay129 (F := Ideal) X⟩, ⟨Rect.unit ![0, 64] ![256, 64] inb_S256x512_S256x64_0_64, k0_pay128 (F := Ideal) X⟩, ⟨Rect.unit ![0, 0] ![256, 64] inb_S256x512_S256x64_0_0, k0_pay127 (F := Ideal) X⟩] (ix2 y0 y1) : EReal)
      = X (ix2 ⟨y1.val / 256 * 64 + y1.val % 64, by omega⟩ ⟨y1.val % 256 / 64 * 256 + y0.val, by omega⟩) := by
  canon_tiles x h
  all_goals (open_payloads; pointwise; blk_ext)
  all_goals (have e0 : y0.val = _ := h0; have e1 : y1.val = _ := h1; omega)

end Cert.Proof.WinV

end
-- ==== Proof.WinBlk.lean ====
module

public import proofs.«01_k».proof.Proof.WinMath
public import proofs.«01_k».proof.Proof.Gen.WinIdeal.Value
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.Proof.WinV

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

/-- The blocks the windows take at a point. -/
theorem windows : ∀ t : Fin cfg0.N, win0_0.index t = ![t.val, 0] ∧ win0_1.index t = ![t.val / 16, 0, 0, 0] ∧ win0_2.index t = ![t.val / 16, 9] ∧ win0_3.index t = ![t.val, 0] :=
  (by decide +kernel : ∀ t : Fin grid0.N, _)

theorem tlt (t : Fin cfg0.N) : t.val < 64 := lt_of_lt_of_eq t.isLt (by decide +kernel)

/-- The query tile of a point. -/
theorem tile : ∀ t : Fin cfg0.N, (grid0.coords t 1).val = t.val % 16 := (by decide +kernel : ∀ t : Fin grid0.N, _)

theorem off1 : ∀ t : Fin cfg0.N, k0_off1 (grid0.coords t) = ![0, 0, 256 * (t.val % 16), 0] := (by decide +kernel : ∀ t : Fin grid0.N, _)
theorem off2 : ∀ t : Fin cfg0.N, k0_off2 (grid0.coords t) = ![256 * (t.val % 16), 0] := (by decide +kernel : ∀ t : Fin grid0.N, _)

/-- A head's block of queries. -/
theorem queries (c : Dev nD) (t : Fin cfg0.N) (e : ℕ) (inb) (p : Fin 256) (j : Fin 64) (i : Fin 16384) (k : Fin 1280)
    (hi : i.val = t.val * 256 + p.val) (hk : k.val = e + j.val) :
    View.ld (X0_0 m c t) (Rect.unit (s := S256x512) ![0, e] ![256, 64] inb) (ix2 p j) = m ((c : Thread nD τ).loc main_arg0) (ix2 i k) := by
  have ht := tlt t
  obtain ⟨w0, -, -, -⟩ := windows t
  have he : e + 64 ≤ 512 := by simpa using inb 1
  have h : ∀ y : S256x512.Idx, X0_0 m c t y = iblk m c 0 t (fun a => ⟨(y a).val, by rw [show ((cfg0.win 0).xblock (cfg0.grid.coords t)).size a = _ from xsize0_0 t a]; exact (y a).isLt⟩) := fun y => by
    unfold X0_0 Pipeline.Window.fill
    rw [dif_pos (moved0_0 t y)]
  refine (h ((Rect.unit (s := S256x512) ![0, e] ![256, 64] inb).idx (ix2 p j))).trans ?_
  have e0 : ((Rect.unit (s := S256x512) ![0, e] ![256, 64] inb).idx (ix2 p j) 0).val = p.val := by show 0 + 1 * _ = _; simp
  have e1 : ((Rect.unit (s := S256x512) ![0, e] ![256, 64] inb).idx (ix2 p j) 1).val = e + j.val := by show e + 1 * _ = _; simp
  blk_simp [iblk]
  entry_read
  blk_ext [w0, e0, e1]
  all_goals omega

/-- A key the batch's window holds. -/
theorem key1 (c : Dev nD) (t : Fin cfg0.N) (g : Fin 2) (p : Fin 4096) (j : Fin 128) (b : Fin 4) (hb : b.val = t.val / 16) :
    iblk m c 1 t (ix4 0 g p j) = m ((c : Thread nD τ).loc main_arg1) (ix4 b g p j) := by
  have ht := tlt t
  obtain ⟨-, w1, -, -⟩ := windows t
  blk_simp [iblk]
  entry_read
  blk_ext [w1]

/-- A value the batch's window holds. -/
theorem value1 (c : Dev nD) (t : Fin cfg0.N) (p : Fin 4096) (j : Fin 128) (i : Fin 16384) (l : Fin 1280)
    (hi : i.val = t.val / 16 * 4096 + p.val) (hl : l.val = 1152 + j.val) :
    iblk m c 2 t (ix2 p j) = m ((c : Thread nD τ).loc main_arg0) (ix2 i l) := by
  have ht := tlt t
  obtain ⟨-, -, w2, -⟩ := windows t
  blk_simp [iblk]
  entry_read
  blk_ext [w2]

/-- A tile of keys. -/
theorem keys (c : Dev nD) (t : Fin cfg0.N) (off : Fin 4 → ℕ) (inb) (g : Fin 2) (n : Fin 16) (hoff : off = ![0, g.val, 256 * n.val, 0]) (k : Fin 256) (j : Fin 128) (b : Fin 4) (hb : b.val = t.val / 16) :
    View.ld (iblk m c 1 t) (Rect.unit (s := S1x2x4096x128) off S1x1x256x128.size inb) (ix4 0 0 k j) = m ((c : Thread nD τ).loc main_arg1) (ix4 b g (pos n k) j) := by
  subst hoff
  have e : (Rect.unit (s := S1x2x4096x128) ![0, g.val, 256 * n.val, 0] S1x1x256x128.size inb).idx (ix4 0 0 k j) = ix4 0 g (pos n k) j := by
    funext a
    fin_cases a
    · rfl
    · exact Fin.ext (show g.val + 1 * 0 = g.val by omega)
    · exact Fin.ext (show 256 * n.val + 1 * k.val = 256 * n.val + k.val by omega)
    · exact Fin.ext (show 0 + 1 * j.val = j.val by omega)
  exact (congrArg (iblk m c 1 t) e).trans (key1 m c t g (pos n k) j b hb)

/-- A tile of values. -/
theorem values (c : Dev nD) (t : Fin cfg0.N) (off : Fin 2 → ℕ) (inb) (g : Fin 2) (n : Fin 16) (hoff : off = ![256 * n.val, 64 * g.val]) (k : Fin 256) (j : Fin 64) (i : Fin 16384) (l : Fin 1280)
    (hi : i.val = t.val / 16 * 4096 + (pos n k).val) (hl : l.val = 1152 + (g.val * 64 + j.val)) :
    View.ld (iblk m c 2 t) (Rect.unit (s := S4096x128) off S256x64.size inb) (ix2 k j) = m ((c : Thread nD τ).loc main_arg0) (ix2 i l) := by
  subst hoff
  have e : (Rect.unit (s := S4096x128) ![256 * n.val, 64 * g.val] S256x64.size inb).idx (ix2 k j) = ix2 (pos n k) ⟨64 * g.val + j.val, by omega⟩ := by
    funext a
    fin_cases a
    · exact Fin.ext (show 256 * n.val + 1 * k.val = 256 * n.val + k.val by omega)
    · exact Fin.ext (show 64 * g.val + 1 * j.val = 64 * g.val + j.val by omega)
  exact (congrArg (iblk m c 2 t) e).trans (value1 m c t (pos n k) _ i l hi (by rw [hl]; show _ = 1152 + (64 * g.val + j.val); omega))

end Cert.Proof.WinV

end
-- ==== Proof.WinRow.lean ====
module

public import proofs.«01_k».proof.Proof.WinDef
public import proofs.«01_k».proof.Proof.WinQ
public import proofs.«01_k».proof.Proof.WinMath

@[expose] public section

set_option maxRecDepth 16384
set_option maxHeartbeats 1000000

noncomputable section

namespace Cert.Proof.WinV

open Cert.WinIdeal Cert.WinIdeal.Gen Idealize.ShloMosaic Idealize.ShloMosaic.TcCoe Idealize.SL.Sem

/-- A row of the kernel's query operand: the query scaled, the two bias columns, zeros. -/
structure QRow (q : Fin 128 → EReal) (w : Fin 64 → ℝ) (σ p : ℝ) : Prop where
  hg : ∀ j : Fin 64, q ⟨j.val, by omega⟩ = ((w j * (1 / 8 * lam) : ℝ) : EReal)
  g64 : q ⟨64, by omega⟩ = ((-(σ * lam) * p : ℝ) : EReal)
  g65 : q ⟨65, by omega⟩ = ((σ * lam : ℝ) : EReal)
  gz : ∀ j : Fin 128, 66 ≤ j.val → q j = 0

theorem mkRow (q : Fin 128 → EReal) (w : Fin 64 → ℝ) (σ p : ℝ)
    (h1 : ∀ j : Fin 64, q ⟨j.val, by omega⟩ = (w j : EReal) * Named.named (F := Ideal) κ "slope3" (φ := .f32) 0x3E38AA3B#32)
    (h2 : ∀ j : Fin 64, q ⟨64 + j.val, by omega⟩ = if j.val = 0 then ((-(σ * (Real.log 2)⁻¹) * p : ℝ) : EReal) else if j.val = 1 then ((σ * (Real.log 2)⁻¹ : ℝ) : EReal) else 0) :
    QRow q w σ p where
  hg j := by rw [h1 j, slope3_eq, ← EReal.coe_mul]
  g64 := (h2 ⟨0, by omega⟩).trans (if_pos rfl)
  g65 := (h2 ⟨1, by omega⟩).trans ((if_neg (show ¬ (1 : ℕ) = 0 by omega)).trans (if_pos rfl))
  gz j hj := by
    have e := h2 ⟨j.val - 64, by omega⟩
    rw [if_neg (show ¬ j.val - 64 = 0 by omega), if_neg (show ¬ j.val - 64 = 1 by omega)] at e
    refine (congrArg q (Fin.ext ?_)).trans e
    show j.val = 64 + (j.val - 64)
    omega

theorem row00 (L0 L1 L2 L3 : FVec Ideal S256x64 .f32) (w : Fin 64 → ℝ) (p : Fin 256) (hL : ∀ j, (L0 (ix2 p j) : EReal) = (w j : EReal)) :
    QRow (fun j => (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32)) (ix3 0 ⟨0 + p.val, by omega⟩ j)) w (1 / 2) p.val :=
  mkRow _ _ _ _ (fun j => (q00 L0 L1 L2 L3 p j).trans (congrArg (· * Named.named (F := Ideal) κ "slope3" (φ := .f32) 0x3E38AA3B#32) (hL j))) (fun j => qb00 L0 L1 L2 L3 p j)

theorem row01 (L0 L1 L2 L3 : FVec Ideal S256x64 .f32) (w : Fin 64 → ℝ) (p : Fin 256) (hL : ∀ j, (L1 (ix2 p j) : EReal) = (w j : EReal)) :
    QRow (fun j => (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32)) (ix3 0 ⟨256 + p.val, by omega⟩ j)) w (1 / 4) p.val :=
  mkRow _ _ _ _ (fun j => (q01 L0 L1 L2 L3 p j).trans (congrArg (· * Named.named (F := Ideal) κ "slope3" (φ := .f32) 0x3E38AA3B#32) (hL j))) (fun j => qb01 L0 L1 L2 L3 p j)

theorem row02 (L0 L1 L2 L3 : FVec Ideal S256x64 .f32) (w : Fin 64 → ℝ) (p : Fin 256) (hL : ∀ j, (L2 (ix2 p j) : EReal) = (w j : EReal)) :
    QRow (fun j => (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32)) (ix3 0 ⟨512 + p.val, by omega⟩ j)) w (1 / 8) p.val :=
  mkRow _ _ _ _ (fun j => (q02 L0 L1 L2 L3 p j).trans (congrArg (· * Named.named (F := Ideal) κ "slope3" (φ := .f32) 0x3E38AA3B#32) (hL j))) (fun j => qb02 L0 L1 L2 L3 p j)

theorem row03 (L0 L1 L2 L3 : FVec Ideal S256x64 .f32) (w : Fin 64 → ℝ) (p : Fin 256) (hL : ∀ j, (L3 (ix2 p j) : EReal) = (w j : EReal)) :
    QRow (fun j => (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32)) (ix3 0 ⟨768 + p.val, by omega⟩ j)) w (1 / 16) p.val :=
  mkRow _ _ _ _ (fun j => (q03 L0 L1 L2 L3 p j).trans (congrArg (· * Named.named (F := Ideal) κ "slope3" (φ := .f32) 0x3E38AA3B#32) (hL j))) (fun j => qb03 L0 L1 L2 L3 p j)

/-- Every row of group 0's query operand. -/
theorem rows0 (L0 L1 L2 L3 : FVec Ideal S256x64 .f32) (w : Fin 4 → Fin 64 → ℝ) (p : Fin 256) (hL0 : ∀ j, (L0 (ix2 p j) : EReal) = (w 0 j : EReal))
    (hL1 : ∀ j, (L1 (ix2 p j) : EReal) = (w 1 j : EReal)) (hL2 : ∀ j, (L2 (ix2 p j) : EReal) = (w 2 j : EReal)) (hL3 : ∀ j, (L3 (ix2 p j) : EReal) = (w 3 j : EReal))
    (h : Fin 4) (r : Fin 1024) (hr : r.val = h.val * 256 + p.val) :
    QRow (fun j => (k0_pay97 (F := Ideal) k0_pay88 (iota Kind.tc S256x64 32 [1] iota_S256x64_d1_w32) (k0_pay90 L0) (k0_pay93 k0_pay88 (iota Kind.tc S256x64 32 [1] iota_S256x64_d1_w32) (k0_pay91 L1) k0_pay92) (k0_pay94 k0_pay88 (iota Kind.tc S256x64 32 [1] iota_S256x64_d1_w32) L2) (k0_pay95 L3) (k0_pay96 (iota Kind.tc S256x64 32 [1] iota_S256x64_d1_w32)) (Named.named κ "minus4" 3182996027#32)) (ix3 0 r j)) (w h) (sl 0 h) p.val := by
  match h, hr with
  | ⟨0, _⟩, hr =>
    have e : r = ⟨0 + p.val, by omega⟩ := Fin.ext (hr.trans (by simp))
    rw [e, show sl 0 ⟨0, by omega⟩ = 1 / 2 by norm_num [sl]]
    exact row00 L0 L1 L2 L3 _ p hL0
  | ⟨1, _⟩, hr =>
    have e : r = ⟨256 + p.val, by omega⟩ := Fin.ext (hr.trans (by simp))
    rw [e, show sl 0 ⟨1, by omega⟩ = 1 / 4 by norm_num [sl]]
    exact row01 L0 L1 L2 L3 _ p hL1
  | ⟨2, _⟩, hr =>
    have e : r = ⟨512 + p.val, by omega⟩ := Fin.ext (hr.trans (by simp))
    rw [e, show sl 0 ⟨2, by omega⟩ = 1 / 8 by norm_num [sl]]
    exact row02 L0 L1 L2 L3 _ p hL2
  | ⟨3, _⟩, hr =>
    have e : r = ⟨768 + p.val, by omega⟩ := Fin.ext (hr.trans (by simp))
    rw [e, show sl 0 ⟨3, by omega⟩ = 1 / 16 by norm_num [sl]]
    exact row03 L0 L1 L2 L3 _ p hL3

theorem row10 (L0 L1 L2 L3 : FVec Ideal S256x64 .f32) (w : Fin 64 → ℝ) (p : Fin 256) (hL : ∀ j, (L0 (ix2 p j) : EReal) = (w j : EReal)) :
    QRow (fun j => (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3) (ix3 0 ⟨0 + p.val, by omega⟩ j)) w (1 / 32) p.val :=
  mkRow _ _ _ _ (fun j => (q10 L0 L1 L2 L3 p j).trans (congrArg (· * Named.named (F := Ideal) κ "slope3" (φ := .f32) 0x3E38AA3B#32) (hL j))) (fun j => qb10 L0 L1 L2 L3 p j)

theorem row11 (L0 L1 L2 L3 : FVec Ideal S256x64 .f32) (w : Fin 64 → ℝ) (p : Fin 256) (hL : ∀ j, (L1 (ix2 p j) : EReal) = (w j : EReal)) :
    QRow (fun j => (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3) (ix3 0 ⟨256 + p.val, by omega⟩ j)) w (1 / 64) p.val :=
  mkRow _ _ _ _ (fun j => (q11 L0 L1 L2 L3 p j).trans (congrArg (· * Named.named (F := Ideal) κ "slope3" (φ := .f32) 0x3E38AA3B#32) (hL j))) (fun j => qb11 L0 L1 L2 L3 p j)

theorem row12 (L0 L1 L2 L3 : FVec Ideal S256x64 .f32) (w : Fin 64 → ℝ) (p : Fin 256) (hL : ∀ j, (L2 (ix2 p j) : EReal) = (w j : EReal)) :
    QRow (fun j => (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3) (ix3 0 ⟨512 + p.val, by omega⟩ j)) w (1 / 128) p.val :=
  mkRow _ _ _ _ (fun j => (q12 L0 L1 L2 L3 p j).trans (congrArg (· * Named.named (F := Ideal) κ "slope3" (φ := .f32) 0x3E38AA3B#32) (hL j))) (fun j => qb12 L0 L1 L2 L3 p j)

theorem row13 (L0 L1 L2 L3 : FVec Ideal S256x64 .f32) (w : Fin 64 → ℝ) (p : Fin 256) (hL : ∀ j, (L3 (ix2 p j) : EReal) = (w j : EReal)) :
    QRow (fun j => (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3) (ix3 0 ⟨768 + p.val, by omega⟩ j)) w (1 / 256) p.val :=
  mkRow _ _ _ _ (fun j => (q13 L0 L1 L2 L3 p j).trans (congrArg (· * Named.named (F := Ideal) κ "slope3" (φ := .f32) 0x3E38AA3B#32) (hL j))) (fun j => qb13 L0 L1 L2 L3 p j)

/-- Every row of group 1's query operand. -/
theorem rows1 (L0 L1 L2 L3 : FVec Ideal S256x64 .f32) (w : Fin 4 → Fin 64 → ℝ) (p : Fin 256) (hL0 : ∀ j, (L0 (ix2 p j) : EReal) = (w 0 j : EReal))
    (hL1 : ∀ j, (L1 (ix2 p j) : EReal) = (w 1 j : EReal)) (hL2 : ∀ j, (L2 (ix2 p j) : EReal) = (w 2 j : EReal)) (hL3 : ∀ j, (L3 (ix2 p j) : EReal) = (w 3 j : EReal))
    (h : Fin 4) (r : Fin 1024) (hr : r.val = h.val * 256 + p.val) :
    QRow (fun j => (k0_pay108 (F := Ideal) k0_pay88 (iota Kind.tc S256x64 32 [1] iota_S256x64_d1_w32) (k0_pay102 (iota Kind.tc S256x64 32 [1] iota_S256x64_d1_w32) (k0_pay99 L0) (k0_pay100 (iota Kind.tc S256x64 32 [1] iota_S256x64_d1_w32)) (k0_pay101 k0_pay88)) (k0_pay103 k0_pay88 (iota Kind.tc S256x64 32 [1] iota_S256x64_d1_w32) L1) (k0_pay104 L2) (k0_pay105 (iota Kind.tc S256x64 32 [1] iota_S256x64_d1_w32)) (k0_pay106 k0_pay88) k0_pay107 L3) (ix3 0 r j)) (w h) (sl 1 h) p.val := by
  match h, hr with
  | ⟨0, _⟩, hr =>
    have e : r = ⟨0 + p.val, by omega⟩ := Fin.ext (hr.trans (by simp))
    rw [e, show sl 1 ⟨0, by omega⟩ = 1 / 32 by norm_num [sl]]
    exact row10 L0 L1 L2 L3 _ p hL0
  | ⟨1, _⟩, hr =>
    have e : r = ⟨256 + p.val, by omega⟩ := Fin.ext (hr.trans (by simp))
    rw [e, show sl 1 ⟨1, by omega⟩ = 1 / 64 by norm_num [sl]]
    exact row11 L0 L1 L2 L3 _ p hL1
  | ⟨2, _⟩, hr =>
    have e : r = ⟨512 + p.val, by omega⟩ := Fin.ext (hr.trans (by simp))
    rw [e, show sl 1 ⟨2, by omega⟩ = 1 / 128 by norm_num [sl]]
    exact row12 L0 L1 L2 L3 _ p hL2
  | ⟨3, _⟩, hr =>
    have e : r = ⟨768 + p.val, by omega⟩ := Fin.ext (hr.trans (by simp))
    rw [e, show sl 1 ⟨3, by omega⟩ = 1 / 256 by norm_num [sl]]
    exact row13 L0 L1 L2 L3 _ p hL3

theorem pos_val (n : Fin 16) (x : Fin 256) : (pos n x).val = 256 * n.val + x.val := rfl

/-- A tile's scores: to the base two, less the tile's shift. -/
theorem tileS (x0 : FVec Ideal S16384x1280 .f32) (x1 : FVec Ideal S4x2x4096x128 .bf16) (H : Good x0 x1) (b : Fin 4) (g : Fin 2) (h : Fin 4) (a n : Fin 16) (y0 : Fin 256)
    (q : Fin 128 → EReal) (hq : QRow q (qr x0 b g h (pos a y0)) (sl g h) y0.val) (k : Fin 256 → Fin 128 → EReal) (hk : ∀ x j, k x j = x1 (ix4 b g (pos n x) j)) (x : Fin 256) :
    ∑ j, k x j * q j = ((lam * rho x0 x1 b g h (pos a y0) (pos n x) - lam * sl g h * (256 * n.val - 256 * a.val) : ℝ) : EReal) := by
  refine (score (k x) q (kr x1 b g (pos n x)) (qr x0 b g h (pos a y0)) (sl g h) y0.val x.val (fun j => (hk x _).trans (H.hk b g (pos n x) j)) hq.hg ((hk x _).trans (H.h64 b g (pos n x)))
    ((hk x _).trans ((H.h65 b g (pos n x)).trans ?_)) hq.g64 hq.g65 hq.gz).trans ?_
  · rw [pos_val, show (256 * n.val + x.val) % 256 = x.val by omega]
  · refine congrArg _ ?_
    rw [rho, pos_val, pos_val]
    push_cast
    ring

theorem int0 : ∀ a : Fin 16, (Scalar.subi (Scalar.muli (BitVec.ofNat 32 a.val) 256#32) (Scalar.muli (BitVec.ofNat 32 a.val) 256#32)).toInt = 0 := by decide +kernel
theorem int1 : ∀ a : Fin 16, (Scalar.subi (Scalar.muli (Scalar.subi (BitVec.ofNat 32 a.val) 1#32) 256#32) (Scalar.muli (BitVec.ofNat 32 a.val) 256#32)).toInt = -256 := by decide +kernel
theorem int2 : ∀ a : Fin 16, (Scalar.subi (Scalar.muli (Scalar.subi (BitVec.ofNat 32 a.val) 2#32) 256#32) (Scalar.muli (BitVec.ofNat 32 a.val) 256#32)).toInt = -512 := by decide +kernel

/-- A tile's shift. -/
theorem shift (σ : ℝ) (a n : Fin 16) (S : EReal) (hS : S = ((σ * lam : ℝ) : EReal)) (z : ℤ) (hz : z = 256 * (n.val : ℤ) - 256 * (a.val : ℤ)) :
    S * (((z : ℤ) : ℝ) : EReal) = ((lam * σ * (256 * n.val - 256 * a.val) : ℝ) : EReal) := by
  subst hz hS
  rw [← EReal.coe_mul]
  refine congrArg _ ?_
  push_cast
  ring

/-- A score kept where the mask's bit says. -/
theorem kept (P Q : Prop) [Decidable P] [Decidable Q] (e : BitVec 1) (he : e = if Q then 1#1 else 0#1) (hPQ : P ↔ Q) (s N : EReal) (v : ℝ) (hs : s = (v : EReal)) (hN : N = ⊥) :
    Scalar.select e s N = if P then (v : EReal) else ⊥ := by
  subst he hs hN
  rw [select_if]
  exact if_congr hPQ.symm rfl rfl

theorem seesDiag (a : Fin 16) (y x : Fin 256) : sees (pos a y) (pos a x) ↔ x.val ≤ y.val := by
  unfold sees
  rw [pos_val, pos_val]
  omega

theorem seesPrev (a n : Fin 16) (h : n.val + 1 = a.val) (y x : Fin 256) : sees (pos a y) (pos n x) := by
  unfold sees
  rw [pos_val, pos_val]
  omega

theorem seesFar (a n : Fin 16) (h : n.val + 2 = a.val) (y x : Fin 256) : sees (pos a y) (pos n x) ↔ y.val < x.val := by
  unfold sees
  rw [pos_val, pos_val]
  omega

theorem seesNot (a n : Fin 16) (h : a.val < n.val ∨ n.val + 2 < a.val) (y x : Fin 256) : ¬ sees (pos a y) (pos n x) := by
  unfold sees
  rw [pos_val, pos_val]
  omega

end Cert.Proof.WinV

end
-- ==== Proof.WinA0.lean ====
module

public import proofs.«01_k».proof.Proof.WinAsm
public import proofs.«01_k».proof.Proof.WinBlk
public import proofs.«01_k».proof.Proof.WinRow

@[expose] public section

set_option maxRecDepth 16384
set_option maxHeartbeats 2000000

noncomputable section

namespace Cert.Proof.WinV

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

theorem keyAtA00 : ∀ t : Fin cfg0.N, t.val % 16 = 0 → k0_off1 (grid0.coords t) = ![0, 0, 256 * (t.val % 16 - 0), 0] := (by decide +kernel : ∀ t : Fin grid0.N, _)
theorem valueAtA00 : ∀ t : Fin cfg0.N, t.val % 16 = 0 → k0_off2 (grid0.coords t) = ![256 * (t.val % 16 - 0), 0] := (by decide +kernel : ∀ t : Fin grid0.N, _)

/-- A first query tile of a batch, heads of group 0. -/
theorem pointA0 (c : Dev nD) (t : Fin cfg0.N) (h0 : t.val % 16 = 0) (y0 : Fin 256) (y1 : Fin 512) (hy : y1.val / 256 = 0)
    (x0 : FVec Ideal S16384x1280 .f32) (x1 : FVec Ideal S4x2x4096x128 .bf16) (hx0 : m ((c : Thread nD τ).loc main_arg0) = x0) (hx1 : m ((c : Thread nD τ).loc main_arg1) = x1) (G : Good x0 x1)
    (b : Fin 4) (hb : b.val = t.val / 16) (h : Fin 4) (hh : h.val = y1.val % 256 / 64) (d : Fin 64) (hdv : d.val = y1.val % 64) (a : Fin 16) (ha : a.val = t.val % 16 - 0) :
    ((outsAt0 m c t.val t.isLt) (ix2 y0 y1) : EReal) = att x0 x1 b 0 h (pos a y0) d := by
  have ht := tlt t
  rw [outsAt0_A m c t h0 (by omega) (by omega)]
  frame_open
  simp (disch := decide) only [↓ View.readCov_skip, ↓ View.readCov_cons_toLoadRect, ↓ View.readCov_fill]
  frame_out
  refine (assembled _ y0 y1).trans ?_
  refine (stacked _ _ _ _ _ _).trans ?_
  rw [dif_pos (show y1.val / 256 * 64 + y1.val % 64 < 64 by omega)]
  generalize hQ : k0_pay97 (F := Ideal) _ _ _ _ _ _ _ _ = Q
  generalize hS : k0_pay89 (F := Ideal) _ = Sl
  generalize hD : k0_pay113 _ _ = Dm
  generalize hK0 : View.ld (iblk m c 1 t) (Rect.unit (k0_off1 _) _ _) = K0
  generalize hV0 : View.ld (iblk m c 2 t) (Rect.unit (k0_off2 _) _ _) = V0
  generalize hA : BitVec.ofNat 32 (grid0.coords t 1).val = ai
  generalize hr : (⟨y1.val % 256 / 64 * 256 + y0.val, _⟩ : Fin 1024) = r
  generalize hd : (⟨_, _⟩ : Fin 64) = dd
  have hdd : dd = d := by
    rw [← hd]
    apply Fin.ext
    show _ = d.val
    show y1.val / 256 * 64 + y1.val % 64 = d.val
    omega
  have hrv : r.val = h.val * 256 + y0.val := by rw [← hr, hh]
  have hai : ai = BitVec.ofNat 32 a.val := by rw [← hA, tile t, ha]; rfl
  have hq : QRow (fun j => Q (ix3 0 r j)) (qr x0 b 0 h (pos a y0)) (sl 0 h) y0.val := by
    rw [← hQ]
    exact rows0 _ _ _ _ (fun h => qr x0 b 0 h (pos a y0)) y0
      (fun j => (queries m c t _ _ y0 j _ _ (show b.val * 4096 + (256 * a.val + y0.val) = _ by omega) (show 0 * 256 + 0 * 64 + j.val = 0 + j.val by omega)).trans ((congrFun hx0 _).trans (G.hq b 0 0 (pos a y0) j)))
      (fun j => (queries m c t _ _ y0 j _ _ (show b.val * 4096 + (256 * a.val + y0.val) = _ by omega) (show 0 * 256 + 1 * 64 + j.val = 64 + j.val by omega)).trans ((congrFun hx0 _).trans (G.hq b 0 1 (pos a y0) j)))
      (fun j => (queries m c t _ _ y0 j _ _ (show b.val * 4096 + (256 * a.val + y0.val) = _ by omega) (show 0 * 256 + 2 * 64 + j.val = 128 + j.val by omega)).trans ((congrFun hx0 _).trans (G.hq b 0 2 (pos a y0) j)))
      (fun j => (queries m c t _ _ y0 j _ _ (show b.val * 4096 + (256 * a.val + y0.val) = _ by omega) (show 0 * 256 + 3 * 64 + j.val = 192 + j.val by omega)).trans ((congrFun hx0 _).trans (G.hq b 0 3 (pos a y0) j)))
      h r hrv
  have hsl : (Sl (ix2 0 r) : EReal) = ((sl 0 h * lam : ℝ) : EReal) := by
    rw [← hS]
    refine (slope0 r).trans ?_
    rw [sl, show r.val / 256 + 1 = 4 * 0 + h.val + 1 by omega]
    rfl
  have hDm : ∀ x : Fin 256, Dm (ix2 x r) = if x.val ≤ y0.val then 1#1 else 0#1 := fun x => by
    rw [← hD]
    have e := diag x r
    rw [show r.val % 256 = y0.val by omega] at e
    exact e
  have hKv0 : ∀ x j, (K0 (ix4 0 0 x j) : EReal) = x1 (ix4 b 0 (pos a x) j) := fun x j => by
    rw [← hK0, ← hx1]
    exact keys m c t _ _ 0 a (by rw [ha]; exact keyAtA00 t h0) x j b hb
  have hVv0 : ∀ x, (V0 (ix2 x dd) : EReal) = va x0 b 0 d (pos a x) := fun x => by
    rw [← hV0, hdd]
    unfold va
    rw [← hx0]
    exact values m c t _ _ 0 a (by rw [ha]; exact valueAtA00 t h0) x d _ _ (show b.val * 4096 + (256 * a.val + x.val) = t.val / 16 * 4096 + (256 * a.val + x.val) by omega) (show 1152 + (0 * 64 + d.val) = 1152 + (0 * 64 + d.val) from rfl)
  generalize hR : att x0 x1 b 0 h (pos a y0) d = R
  clear hQ hS hD hK0 hV0 hA hr hd
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay90, k0_pay91, k0_pay92, k0_pay93, k0_pay94, k0_pay95, k0_pay96, k0_pay99, k0_pay100, k0_pay101, k0_pay102, k0_pay103, k0_pay104, k0_pay105, k0_pay106, k0_pay107, k0_pay109, k0_pay110, k0_pay111, k0_pay112, k0_pay114, k0_pay115, k0_pay116, k0_pay117, k0_pay118, k0_pay119, k0_pay120, k0_pay121, k0_pay122, k0_pay123, k0_pay124, k0_pay125]
  subst hai
  rw [← hR]
  have key := flash1 (fun x => Scalar.select (α := EReal) (Dm (ix2 x r)) (∑ j, @HMul.hMul EReal EReal EReal _ (K0 (ix4 0 0 x j)) (Q (ix3 0 r j))) (Named.named (F := Ideal) κ "mask" (φ := .f32) 0xF149F2CA#32)) (fun x => V0 (ix2 x dd)) (Named.named (F := Ideal) κ "mask" (φ := .f32) 0xF149F2CA#32) _ _ mask_eq neg_inf (rho x0 x1 b 0 h (pos a y0)) (sees (pos a y0)) (va x0 b 0 d) a
    (fun i n0 x => seesNot a i (by have e0 : i.val ≠ a.val := fun e => n0 (Fin.ext e); omega) y0 x) ⟨y0, (seesDiag a y0 y0).2 le_rfl⟩
    (lam * sl 0 h * (256 * a.val - 256 * a.val)) (shift (sl 0 h) a a _ hsl _ ((int0 a).trans (by omega))) (fun x => kept _ _ _ (hDm x) (seesDiag a y0 x) _ _ _ (tileS x0 x1 G b 0 h a a y0 _ hq (fun x j => K0 (ix4 0 0 x j)) hKv0 x) mask_eq) hVv0
  exact key

end Cert.Proof.WinV

end
-- ==== Proof.WinA1.lean ====
module

public import proofs.«01_k».proof.Proof.WinAsm
public import proofs.«01_k».proof.Proof.WinBlk
public import proofs.«01_k».proof.Proof.WinRow

@[expose] public section

set_option maxRecDepth 16384
set_option maxHeartbeats 2000000

noncomputable section

namespace Cert.Proof.WinV

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

theorem keyAtA10 : ∀ t : Fin cfg0.N, t.val % 16 = 0 → k0_off3 (grid0.coords t) = ![0, 1, 256 * (t.val % 16 - 0), 0] := (by decide +kernel : ∀ t : Fin grid0.N, _)
theorem valueAtA10 : ∀ t : Fin cfg0.N, t.val % 16 = 0 → k0_off4 (grid0.coords t) = ![256 * (t.val % 16 - 0), 64] := (by decide +kernel : ∀ t : Fin grid0.N, _)

/-- A first query tile of a batch, heads of group 1. -/
theorem pointA1 (c : Dev nD) (t : Fin cfg0.N) (h0 : t.val % 16 = 0) (y0 : Fin 256) (y1 : Fin 512) (hy : y1.val / 256 = 1)
    (x0 : FVec Ideal S16384x1280 .f32) (x1 : FVec Ideal S4x2x4096x128 .bf16) (hx0 : m ((c : Thread nD τ).loc main_arg0) = x0) (hx1 : m ((c : Thread nD τ).loc main_arg1) = x1) (G : Good x0 x1)
    (b : Fin 4) (hb : b.val = t.val / 16) (h : Fin 4) (hh : h.val = y1.val % 256 / 64) (d : Fin 64) (hdv : d.val = y1.val % 64) (a : Fin 16) (ha : a.val = t.val % 16 - 0) :
    ((outsAt0 m c t.val t.isLt) (ix2 y0 y1) : EReal) = att x0 x1 b 1 h (pos a y0) d := by
  have ht := tlt t
  rw [outsAt0_A m c t h0 (by omega) (by omega)]
  frame_open
  simp (disch := decide) only [↓ View.readCov_skip, ↓ View.readCov_cons_toLoadRect, ↓ View.readCov_fill]
  frame_out
  refine (assembled _ y0 y1).trans ?_
  refine (stacked _ _ _ _ _ _).trans ?_
  rw [dif_neg (show ¬ y1.val / 256 * 64 + y1.val % 64 < 64 by omega)]
  generalize hQ : k0_pay108 (F := Ideal) _ _ _ _ _ _ _ _ _ = Q
  generalize hS : k0_pay98 (F := Ideal) _ = Sl
  generalize hD : k0_pay113 _ _ = Dm
  generalize hK0 : View.ld (iblk m c 1 t) (Rect.unit (k0_off3 _) _ _) = K0
  generalize hV0 : View.ld (iblk m c 2 t) (Rect.unit (k0_off4 _) _ _) = V0
  generalize hA : BitVec.ofNat 32 (grid0.coords t 1).val = ai
  generalize hr : (⟨y1.val % 256 / 64 * 256 + y0.val, _⟩ : Fin 1024) = r
  generalize hd : (⟨_, _⟩ : Fin 64) = dd
  have hdd : dd = d := by
    rw [← hd]
    apply Fin.ext
    show _ = d.val
    show y1.val / 256 * 64 + y1.val % 64 - 64 = d.val
    omega
  have hrv : r.val = h.val * 256 + y0.val := by rw [← hr, hh]
  have hai : ai = BitVec.ofNat 32 a.val := by rw [← hA, tile t, ha]; rfl
  have hq : QRow (fun j => Q (ix3 0 r j)) (qr x0 b 1 h (pos a y0)) (sl 1 h) y0.val := by
    rw [← hQ]
    exact rows1 _ _ _ _ (fun h => qr x0 b 1 h (pos a y0)) y0
      (fun j => (queries m c t _ _ y0 j _ _ (show b.val * 4096 + (256 * a.val + y0.val) = _ by omega) (show 1 * 256 + 0 * 64 + j.val = 256 + j.val by omega)).trans ((congrFun hx0 _).trans (G.hq b 1 0 (pos a y0) j)))
      (fun j => (queries m c t _ _ y0 j _ _ (show b.val * 4096 + (256 * a.val + y0.val) = _ by omega) (show 1 * 256 + 1 * 64 + j.val = 320 + j.val by omega)).trans ((congrFun hx0 _).trans (G.hq b 1 1 (pos a y0) j)))
      (fun j => (queries m c t _ _ y0 j _ _ (show b.val * 4096 + (256 * a.val + y0.val) = _ by omega) (show 1 * 256 + 2 * 64 + j.val = 384 + j.val by omega)).trans ((congrFun hx0 _).trans (G.hq b 1 2 (pos a y0) j)))
      (fun j => (queries m c t _ _ y0 j _ _ (show b.val * 4096 + (256 * a.val + y0.val) = _ by omega) (show 1 * 256 + 3 * 64 + j.val = 448 + j.val by omega)).trans ((congrFun hx0 _).trans (G.hq b 1 3 (pos a y0) j)))
      h r hrv
  have hsl : (Sl (ix2 0 r) : EReal) = ((sl 1 h * lam : ℝ) : EReal) := by
    rw [← hS]
    refine (slope1 r).trans ?_
    rw [sl, show r.val / 256 + 5 = 4 * 1 + h.val + 1 by omega]
    rfl
  have hDm : ∀ x : Fin 256, Dm (ix2 x r) = if x.val ≤ y0.val then 1#1 else 0#1 := fun x => by
    rw [← hD]
    have e := diag x r
    rw [show r.val % 256 = y0.val by omega] at e
    exact e
  have hKv0 : ∀ x j, (K0 (ix4 0 0 x j) : EReal) = x1 (ix4 b 1 (pos a x) j) := fun x j => by
    rw [← hK0, ← hx1]
    exact keys m c t _ _ 1 a (by rw [ha]; exact keyAtA10 t h0) x j b hb
  have hVv0 : ∀ x, (V0 (ix2 x dd) : EReal) = va x0 b 1 d (pos a x) := fun x => by
    rw [← hV0, hdd]
    unfold va
    rw [← hx0]
    exact values m c t _ _ 1 a (by rw [ha]; exact valueAtA10 t h0) x d _ _ (show b.val * 4096 + (256 * a.val + x.val) = t.val / 16 * 4096 + (256 * a.val + x.val) by omega) (show 1152 + (1 * 64 + d.val) = 1152 + (1 * 64 + d.val) from rfl)
  generalize hR : att x0 x1 b 1 h (pos a y0) d = R
  clear hQ hS hD hK0 hV0 hA hr hd
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay90, k0_pay91, k0_pay92, k0_pay93, k0_pay94, k0_pay95, k0_pay96, k0_pay99, k0_pay100, k0_pay101, k0_pay102, k0_pay103, k0_pay104, k0_pay105, k0_pay106, k0_pay107, k0_pay109, k0_pay110, k0_pay111, k0_pay112, k0_pay114, k0_pay115, k0_pay116, k0_pay117, k0_pay118, k0_pay119, k0_pay120, k0_pay121, k0_pay122, k0_pay123, k0_pay124, k0_pay125]
  subst hai
  rw [← hR]
  have key := flash1 (fun x => Scalar.select (α := EReal) (Dm (ix2 x r)) (∑ j, @HMul.hMul EReal EReal EReal _ (K0 (ix4 0 0 x j)) (Q (ix3 0 r j))) (Named.named (F := Ideal) κ "mask" (φ := .f32) 0xF149F2CA#32)) (fun x => V0 (ix2 x dd)) (Named.named (F := Ideal) κ "mask" (φ := .f32) 0xF149F2CA#32) _ _ mask_eq neg_inf (rho x0 x1 b 1 h (pos a y0)) (sees (pos a y0)) (va x0 b 1 d) a
    (fun i n0 x => seesNot a i (by have e0 : i.val ≠ a.val := fun e => n0 (Fin.ext e); omega) y0 x) ⟨y0, (seesDiag a y0 y0).2 le_rfl⟩
    (lam * sl 1 h * (256 * a.val - 256 * a.val)) (shift (sl 1 h) a a _ hsl _ ((int0 a).trans (by omega))) (fun x => kept _ _ _ (hDm x) (seesDiag a y0 x) _ _ _ (tileS x0 x1 G b 1 h a a y0 _ hq (fun x j => K0 (ix4 0 0 x j)) hKv0 x) mask_eq) hVv0
  exact key

end Cert.Proof.WinV

end
-- ==== Proof.WinB0.lean ====
module

public import proofs.«01_k».proof.Proof.WinAsm
public import proofs.«01_k».proof.Proof.WinBlk
public import proofs.«01_k».proof.Proof.WinRow

@[expose] public section

set_option maxRecDepth 16384
set_option maxHeartbeats 2000000

noncomputable section

namespace Cert.Proof.WinV

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

theorem keyAtB00 : ∀ t : Fin cfg0.N, t.val % 16 = 1 → k0_off5 (grid0.coords t) = ![0, 0, 256 * (t.val % 16 - 0), 0] := (by decide +kernel : ∀ t : Fin grid0.N, _)
theorem valueAtB00 : ∀ t : Fin cfg0.N, t.val % 16 = 1 → k0_off6 (grid0.coords t) = ![256 * (t.val % 16 - 0), 0] := (by decide +kernel : ∀ t : Fin grid0.N, _)
theorem keyAtB01 : ∀ t : Fin cfg0.N, t.val % 16 = 1 → k0_off7 (grid0.coords t) = ![0, 0, 256 * (t.val % 16 - 1), 0] := (by decide +kernel : ∀ t : Fin grid0.N, _)
theorem valueAtB01 : ∀ t : Fin cfg0.N, t.val % 16 = 1 → k0_off8 (grid0.coords t) = ![256 * (t.val % 16 - 1), 0] := (by decide +kernel : ∀ t : Fin grid0.N, _)

/-- A second query tile of a batch, heads of group 0. -/
theorem pointB0 (c : Dev nD) (t : Fin cfg0.N) (h1 : t.val % 16 = 1) (y0 : Fin 256) (y1 : Fin 512) (hy : y1.val / 256 = 0)
    (x0 : FVec Ideal S16384x1280 .f32) (x1 : FVec Ideal S4x2x4096x128 .bf16) (hx0 : m ((c : Thread nD τ).loc main_arg0) = x0) (hx1 : m ((c : Thread nD τ).loc main_arg1) = x1) (G : Good x0 x1)
    (b : Fin 4) (hb : b.val = t.val / 16) (h : Fin 4) (hh : h.val = y1.val % 256 / 64) (d : Fin 64) (hdv : d.val = y1.val % 64) (a a1 : Fin 16) (ha : a.val = t.val % 16 - 0) (ha1 : a1.val = t.val % 16 - 1) :
    ((outsAt0 m c t.val t.isLt) (ix2 y0 y1) : EReal) = att x0 x1 b 0 h (pos a y0) d := by
  have ht := tlt t
  rw [outsAt0_B m c t (by omega) h1 (by omega)]
  frame_open
  simp (disch := decide) only [↓ View.readCov_skip, ↓ View.readCov_cons_toLoadRect, ↓ View.readCov_fill]
  frame_out
  refine (assembled _ y0 y1).trans ?_
  refine (stacked _ _ _ _ _ _).trans ?_
  rw [dif_pos (show y1.val / 256 * 64 + y1.val % 64 < 64 by omega)]
  generalize hQ : k0_pay97 (F := Ideal) _ _ _ _ _ _ _ _ = Q
  generalize hS : k0_pay89 (F := Ideal) _ = Sl
  generalize hD : k0_pay113 _ _ = Dm
  generalize hK0 : View.ld (iblk m c 1 t) (Rect.unit (k0_off5 _) _ _) = K0
  generalize hV0 : View.ld (iblk m c 2 t) (Rect.unit (k0_off6 _) _ _) = V0
  generalize hK1 : View.ld (iblk m c 1 t) (Rect.unit (k0_off7 _) _ _) = K1
  generalize hV1 : View.ld (iblk m c 2 t) (Rect.unit (k0_off8 _) _ _) = V1
  generalize hA : BitVec.ofNat 32 (grid0.coords t 1).val = ai
  generalize hr : (⟨y1.val % 256 / 64 * 256 + y0.val, _⟩ : Fin 1024) = r
  generalize hd : (⟨_, _⟩ : Fin 64) = dd
  have hdd : dd = d := by
    rw [← hd]
    apply Fin.ext
    show _ = d.val
    show y1.val / 256 * 64 + y1.val % 64 = d.val
    omega
  have hrv : r.val = h.val * 256 + y0.val := by rw [← hr, hh]
  have hai : ai = BitVec.ofNat 32 a.val := by rw [← hA, tile t, ha]; rfl
  have hq : QRow (fun j => Q (ix3 0 r j)) (qr x0 b 0 h (pos a y0)) (sl 0 h) y0.val := by
    rw [← hQ]
    exact rows0 _ _ _ _ (fun h => qr x0 b 0 h (pos a y0)) y0
      (fun j => (queries m c t _ _ y0 j _ _ (show b.val * 4096 + (256 * a.val + y0.val) = _ by omega) (show 0 * 256 + 0 * 64 + j.val = 0 + j.val by omega)).trans ((congrFun hx0 _).trans (G.hq b 0 0 (pos a y0) j)))
      (fun j => (queries m c t _ _ y0 j _ _ (show b.val * 4096 + (256 * a.val + y0.val) = _ by omega) (show 0 * 256 + 1 * 64 + j.val = 64 + j.val by omega)).trans ((congrFun hx0 _).trans (G.hq b 0 1 (pos a y0) j)))
      (fun j => (queries m c t _ _ y0 j _ _ (show b.val * 4096 + (256 * a.val + y0.val) = _ by omega) (show 0 * 256 + 2 * 64 + j.val = 128 + j.val by omega)).trans ((congrFun hx0 _).trans (G.hq b 0 2 (pos a y0) j)))
      (fun j => (queries m c t _ _ y0 j _ _ (show b.val * 4096 + (256 * a.val + y0.val) = _ by omega) (show 0 * 256 + 3 * 64 + j.val = 192 + j.val by omega)).trans ((congrFun hx0 _).trans (G.hq b 0 3 (pos a y0) j)))
      h r hrv
  have hsl : (Sl (ix2 0 r) : EReal) = ((sl 0 h * lam : ℝ) : EReal) := by
    rw [← hS]
    refine (slope0 r).trans ?_
    rw [sl, show r.val / 256 + 1 = 4 * 0 + h.val + 1 by omega]
    rfl
  have hDm : ∀ x : Fin 256, Dm (ix2 x r) = if x.val ≤ y0.val then 1#1 else 0#1 := fun x => by
    rw [← hD]
    have e := diag x r
    rw [show r.val % 256 = y0.val by omega] at e
    exact e
  have hKv0 : ∀ x j, (K0 (ix4 0 0 x j) : EReal) = x1 (ix4 b 0 (pos a x) j) := fun x j => by
    rw [← hK0, ← hx1]
    exact keys m c t _ _ 0 a (by rw [ha]; exact keyAtB00 t h1) x j b hb
  have hVv0 : ∀ x, (V0 (ix2 x dd) : EReal) = va x0 b 0 d (pos a x) := fun x => by
    rw [← hV0, hdd]
    unfold va
    rw [← hx0]
    exact values m c t _ _ 0 a (by rw [ha]; exact valueAtB00 t h1) x d _ _ (show b.val * 4096 + (256 * a.val + x.val) = t.val / 16 * 4096 + (256 * a.val + x.val) by omega) (show 1152 + (0 * 64 + d.val) = 1152 + (0 * 64 + d.val) from rfl)
  have hKv1 : ∀ x j, (K1 (ix4 0 0 x j) : EReal) = x1 (ix4 b 0 (pos a1 x) j) := fun x j => by
    rw [← hK1, ← hx1]
    exact keys m c t _ _ 0 a1 (by rw [ha1]; exact keyAtB01 t h1) x j b hb
  have hVv1 : ∀ x, (V1 (ix2 x dd) : EReal) = va x0 b 0 d (pos a1 x) := fun x => by
    rw [← hV1, hdd]
    unfold va
    rw [← hx0]
    exact values m c t _ _ 0 a1 (by rw [ha1]; exact valueAtB01 t h1) x d _ _ (show b.val * 4096 + (256 * a1.val + x.val) = t.val / 16 * 4096 + (256 * a1.val + x.val) by omega) (show 1152 + (0 * 64 + d.val) = 1152 + (0 * 64 + d.val) from rfl)
  generalize hR : att x0 x1 b 0 h (pos a y0) d = R
  clear hQ hS hD hK0 hV0 hK1 hV1 hA hr hd
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay90, k0_pay91, k0_pay92, k0_pay93, k0_pay94, k0_pay95, k0_pay96, k0_pay99, k0_pay100, k0_pay101, k0_pay102, k0_pay103, k0_pay104, k0_pay105, k0_pay106, k0_pay107, k0_pay109, k0_pay110, k0_pay111, k0_pay112, k0_pay114, k0_pay115, k0_pay116, k0_pay117, k0_pay118, k0_pay119, k0_pay120, k0_pay121, k0_pay122, k0_pay123, k0_pay124, k0_pay125]
  subst hai
  rw [← hR]
  have key := flash2 (fun x => Scalar.select (α := EReal) (Dm (ix2 x r)) (∑ j, @HMul.hMul EReal EReal EReal _ (K0 (ix4 0 0 x j)) (Q (ix3 0 r j))) (Named.named (F := Ideal) κ "mask" (φ := .f32) 0xF149F2CA#32)) (fun x => ∑ j, @HMul.hMul EReal EReal EReal _ (K1 (ix4 0 0 x j)) (Q (ix3 0 r j))) (fun x => V0 (ix2 x dd)) (fun x => V1 (ix2 x dd)) (Named.named (F := Ideal) κ "mask" (φ := .f32) 0xF149F2CA#32) _ _ _ mask_eq neg_inf (rho x0 x1 b 0 h (pos a y0)) (sees (pos a y0)) (va x0 b 0 d) a a1 (fun e => by have := congrArg Fin.val e; omega)
    (fun i n0 n1 x => seesNot a i (by have e0 : i.val ≠ a.val := fun e => n0 (Fin.ext e); have e1 : i.val ≠ a1.val := fun e => n1 (Fin.ext e); omega) y0 x) ⟨y0, (seesDiag a y0 y0).2 le_rfl⟩
    (lam * sl 0 h * (256 * a.val - 256 * a.val)) (shift (sl 0 h) a a _ hsl _ ((int0 a).trans (by omega))) (fun x => kept _ _ _ (hDm x) (seesDiag a y0 x) _ _ _ (tileS x0 x1 G b 0 h a a y0 _ hq (fun x j => K0 (ix4 0 0 x j)) hKv0 x) mask_eq) hVv0
    (lam * sl 0 h * (256 * a1.val - 256 * a.val)) (shift (sl 0 h) a a1 _ hsl _ ((int1 a).trans (by omega))) (fun x => (tileS x0 x1 G b 0 h a a1 y0 _ hq (fun x j => K1 (ix4 0 0 x j)) hKv1 x).trans (if_pos (seesPrev a a1 (by omega) y0 x)).symm) hVv1
  exact key

end Cert.Proof.WinV

end
-- ==== Proof.WinB1.lean ====
module

public import proofs.«01_k».proof.Proof.WinAsm
public import proofs.«01_k».proof.Proof.WinBlk
public import proofs.«01_k».proof.Proof.WinRow

@[expose] public section

set_option maxRecDepth 16384
set_option maxHeartbeats 2000000

noncomputable section

namespace Cert.Proof.WinV

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

theorem keyAtB10 : ∀ t : Fin cfg0.N, t.val % 16 = 1 → k0_off9 (grid0.coords t) = ![0, 1, 256 * (t.val % 16 - 0), 0] := (by decide +kernel : ∀ t : Fin grid0.N, _)
theorem valueAtB10 : ∀ t : Fin cfg0.N, t.val % 16 = 1 → k0_off10 (grid0.coords t) = ![256 * (t.val % 16 - 0), 64] := (by decide +kernel : ∀ t : Fin grid0.N, _)
theorem keyAtB11 : ∀ t : Fin cfg0.N, t.val % 16 = 1 → k0_off11 (grid0.coords t) = ![0, 1, 256 * (t.val % 16 - 1), 0] := (by decide +kernel : ∀ t : Fin grid0.N, _)
theorem valueAtB11 : ∀ t : Fin cfg0.N, t.val % 16 = 1 → k0_off12 (grid0.coords t) = ![256 * (t.val % 16 - 1), 64] := (by decide +kernel : ∀ t : Fin grid0.N, _)

/-- A second query tile of a batch, heads of group 1. -/
theorem pointB1 (c : Dev nD) (t : Fin cfg0.N) (h1 : t.val % 16 = 1) (y0 : Fin 256) (y1 : Fin 512) (hy : y1.val / 256 = 1)
    (x0 : FVec Ideal S16384x1280 .f32) (x1 : FVec Ideal S4x2x4096x128 .bf16) (hx0 : m ((c : Thread nD τ).loc main_arg0) = x0) (hx1 : m ((c : Thread nD τ).loc main_arg1) = x1) (G : Good x0 x1)
    (b : Fin 4) (hb : b.val = t.val / 16) (h : Fin 4) (hh : h.val = y1.val % 256 / 64) (d : Fin 64) (hdv : d.val = y1.val % 64) (a a1 : Fin 16) (ha : a.val = t.val % 16 - 0) (ha1 : a1.val = t.val % 16 - 1) :
    ((outsAt0 m c t.val t.isLt) (ix2 y0 y1) : EReal) = att x0 x1 b 1 h (pos a y0) d := by
  have ht := tlt t
  rw [outsAt0_B m c t (by omega) h1 (by omega)]
  frame_open
  simp (disch := decide) only [↓ View.readCov_skip, ↓ View.readCov_cons_toLoadRect, ↓ View.readCov_fill]
  frame_out
  refine (assembled _ y0 y1).trans ?_
  refine (stacked _ _ _ _ _ _).trans ?_
  rw [dif_neg (show ¬ y1.val / 256 * 64 + y1.val % 64 < 64 by omega)]
  generalize hQ : k0_pay108 (F := Ideal) _ _ _ _ _ _ _ _ _ = Q
  generalize hS : k0_pay98 (F := Ideal) _ = Sl
  generalize hD : k0_pay113 _ _ = Dm
  generalize hK0 : View.ld (iblk m c 1 t) (Rect.unit (k0_off9 _) _ _) = K0
  generalize hV0 : View.ld (iblk m c 2 t) (Rect.unit (k0_off10 _) _ _) = V0
  generalize hK1 : View.ld (iblk m c 1 t) (Rect.unit (k0_off11 _) _ _) = K1
  generalize hV1 : View.ld (iblk m c 2 t) (Rect.unit (k0_off12 _) _ _) = V1
  generalize hA : BitVec.ofNat 32 (grid0.coords t 1).val = ai
  generalize hr : (⟨y1.val % 256 / 64 * 256 + y0.val, _⟩ : Fin 1024) = r
  generalize hd : (⟨_, _⟩ : Fin 64) = dd
  have hdd : dd = d := by
    rw [← hd]
    apply Fin.ext
    show _ = d.val
    show y1.val / 256 * 64 + y1.val % 64 - 64 = d.val
    omega
  have hrv : r.val = h.val * 256 + y0.val := by rw [← hr, hh]
  have hai : ai = BitVec.ofNat 32 a.val := by rw [← hA, tile t, ha]; rfl
  have hq : QRow (fun j => Q (ix3 0 r j)) (qr x0 b 1 h (pos a y0)) (sl 1 h) y0.val := by
    rw [← hQ]
    exact rows1 _ _ _ _ (fun h => qr x0 b 1 h (pos a y0)) y0
      (fun j => (queries m c t _ _ y0 j _ _ (show b.val * 4096 + (256 * a.val + y0.val) = _ by omega) (show 1 * 256 + 0 * 64 + j.val = 256 + j.val by omega)).trans ((congrFun hx0 _).trans (G.hq b 1 0 (pos a y0) j)))
      (fun j => (queries m c t _ _ y0 j _ _ (show b.val * 4096 + (256 * a.val + y0.val) = _ by omega) (show 1 * 256 + 1 * 64 + j.val = 320 + j.val by omega)).trans ((congrFun hx0 _).trans (G.hq b 1 1 (pos a y0) j)))
      (fun j => (queries m c t _ _ y0 j _ _ (show b.val * 4096 + (256 * a.val + y0.val) = _ by omega) (show 1 * 256 + 2 * 64 + j.val = 384 + j.val by omega)).trans ((congrFun hx0 _).trans (G.hq b 1 2 (pos a y0) j)))
      (fun j => (queries m c t _ _ y0 j _ _ (show b.val * 4096 + (256 * a.val + y0.val) = _ by omega) (show 1 * 256 + 3 * 64 + j.val = 448 + j.val by omega)).trans ((congrFun hx0 _).trans (G.hq b 1 3 (pos a y0) j)))
      h r hrv
  have hsl : (Sl (ix2 0 r) : EReal) = ((sl 1 h * lam : ℝ) : EReal) := by
    rw [← hS]
    refine (slope1 r).trans ?_
    rw [sl, show r.val / 256 + 5 = 4 * 1 + h.val + 1 by omega]
    rfl
  have hDm : ∀ x : Fin 256, Dm (ix2 x r) = if x.val ≤ y0.val then 1#1 else 0#1 := fun x => by
    rw [← hD]
    have e := diag x r
    rw [show r.val % 256 = y0.val by omega] at e
    exact e
  have hKv0 : ∀ x j, (K0 (ix4 0 0 x j) : EReal) = x1 (ix4 b 1 (pos a x) j) := fun x j => by
    rw [← hK0, ← hx1]
    exact keys m c t _ _ 1 a (by rw [ha]; exact keyAtB10 t h1) x j b hb
  have hVv0 : ∀ x, (V0 (ix2 x dd) : EReal) = va x0 b 1 d (pos a x) := fun x => by
    rw [← hV0, hdd]
    unfold va
    rw [← hx0]
    exact values m c t _ _ 1 a (by rw [ha]; exact valueAtB10 t h1) x d _ _ (show b.val * 4096 + (256 * a.val + x.val) = t.val / 16 * 4096 + (256 * a.val + x.val) by omega) (show 1152 + (1 * 64 + d.val) = 1152 + (1 * 64 + d.val) from rfl)
  have hKv1 : ∀ x j, (K1 (ix4 0 0 x j) : EReal) = x1 (ix4 b 1 (pos a1 x) j) := fun x j => by
    rw [← hK1, ← hx1]
    exact keys m c t _ _ 1 a1 (by rw [ha1]; exact keyAtB11 t h1) x j b hb
  have hVv1 : ∀ x, (V1 (ix2 x dd) : EReal) = va x0 b 1 d (pos a1 x) := fun x => by
    rw [← hV1, hdd]
    unfold va
    rw [← hx0]
    exact values m c t _ _ 1 a1 (by rw [ha1]; exact valueAtB11 t h1) x d _ _ (show b.val * 4096 + (256 * a1.val + x.val) = t.val / 16 * 4096 + (256 * a1.val + x.val) by omega) (show 1152 + (1 * 64 + d.val) = 1152 + (1 * 64 + d.val) from rfl)
  generalize hR : att x0 x1 b 1 h (pos a y0) d = R
  clear hQ hS hD hK0 hV0 hK1 hV1 hA hr hd
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay90, k0_pay91, k0_pay92, k0_pay93, k0_pay94, k0_pay95, k0_pay96, k0_pay99, k0_pay100, k0_pay101, k0_pay102, k0_pay103, k0_pay104, k0_pay105, k0_pay106, k0_pay107, k0_pay109, k0_pay110, k0_pay111, k0_pay112, k0_pay114, k0_pay115, k0_pay116, k0_pay117, k0_pay118, k0_pay119, k0_pay120, k0_pay121, k0_pay122, k0_pay123, k0_pay124, k0_pay125]
  subst hai
  rw [← hR]
  have key := flash2 (fun x => Scalar.select (α := EReal) (Dm (ix2 x r)) (∑ j, @HMul.hMul EReal EReal EReal _ (K0 (ix4 0 0 x j)) (Q (ix3 0 r j))) (Named.named (F := Ideal) κ "mask" (φ := .f32) 0xF149F2CA#32)) (fun x => ∑ j, @HMul.hMul EReal EReal EReal _ (K1 (ix4 0 0 x j)) (Q (ix3 0 r j))) (fun x => V0 (ix2 x dd)) (fun x => V1 (ix2 x dd)) (Named.named (F := Ideal) κ "mask" (φ := .f32) 0xF149F2CA#32) _ _ _ mask_eq neg_inf (rho x0 x1 b 1 h (pos a y0)) (sees (pos a y0)) (va x0 b 1 d) a a1 (fun e => by have := congrArg Fin.val e; omega)
    (fun i n0 n1 x => seesNot a i (by have e0 : i.val ≠ a.val := fun e => n0 (Fin.ext e); have e1 : i.val ≠ a1.val := fun e => n1 (Fin.ext e); omega) y0 x) ⟨y0, (seesDiag a y0 y0).2 le_rfl⟩
    (lam * sl 1 h * (256 * a.val - 256 * a.val)) (shift (sl 1 h) a a _ hsl _ ((int0 a).trans (by omega))) (fun x => kept _ _ _ (hDm x) (seesDiag a y0 x) _ _ _ (tileS x0 x1 G b 1 h a a y0 _ hq (fun x j => K0 (ix4 0 0 x j)) hKv0 x) mask_eq) hVv0
    (lam * sl 1 h * (256 * a1.val - 256 * a.val)) (shift (sl 1 h) a a1 _ hsl _ ((int1 a).trans (by omega))) (fun x => (tileS x0 x1 G b 1 h a a1 y0 _ hq (fun x j => K1 (ix4 0 0 x j)) hKv1 x).trans (if_pos (seesPrev a a1 (by omega) y0 x)).symm) hVv1
  exact key

end Cert.Proof.WinV

end
-- ==== Proof.WinC0.lean ====
module

public import proofs.«01_k».proof.Proof.WinAsm
public import proofs.«01_k».proof.Proof.WinBlk
public import proofs.«01_k».proof.Proof.WinRow

@[expose] public section

set_option maxRecDepth 16384
set_option maxHeartbeats 2000000

noncomputable section

namespace Cert.Proof.WinV

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

theorem keyAtC00 : ∀ t : Fin cfg0.N, 2 ≤ t.val % 16 → k0_off13 (grid0.coords t) = ![0, 0, 256 * (t.val % 16 - 0), 0] := (by decide +kernel : ∀ t : Fin grid0.N, _)
theorem valueAtC00 : ∀ t : Fin cfg0.N, 2 ≤ t.val % 16 → k0_off14 (grid0.coords t) = ![256 * (t.val % 16 - 0), 0] := (by decide +kernel : ∀ t : Fin grid0.N, _)
theorem keyAtC01 : ∀ t : Fin cfg0.N, 2 ≤ t.val % 16 → k0_off15 (grid0.coords t) 1#32 = ![0, 0, 256 * (t.val % 16 - 1), 0] := (by decide +kernel : ∀ t : Fin grid0.N, _)
theorem valueAtC01 : ∀ t : Fin cfg0.N, 2 ≤ t.val % 16 → k0_off16 (grid0.coords t) 1#32 = ![256 * (t.val % 16 - 1), 0] := (by decide +kernel : ∀ t : Fin grid0.N, _)
theorem keyAtC02 : ∀ t : Fin cfg0.N, 2 ≤ t.val % 16 → k0_off15 (grid0.coords t) 2#32 = ![0, 0, 256 * (t.val % 16 - 2), 0] := (by decide +kernel : ∀ t : Fin grid0.N, _)
theorem valueAtC02 : ∀ t : Fin cfg0.N, 2 ≤ t.val % 16 → k0_off16 (grid0.coords t) 2#32 = ![256 * (t.val % 16 - 2), 0] := (by decide +kernel : ∀ t : Fin grid0.N, _)

/-- A later query tile of a batch, heads of group 0. -/
theorem pointC0 (c : Dev nD) (t : Fin cfg0.N) (h2 : 2 ≤ t.val % 16) (y0 : Fin 256) (y1 : Fin 512) (hy : y1.val / 256 = 0)
    (x0 : FVec Ideal S16384x1280 .f32) (x1 : FVec Ideal S4x2x4096x128 .bf16) (hx0 : m ((c : Thread nD τ).loc main_arg0) = x0) (hx1 : m ((c : Thread nD τ).loc main_arg1) = x1) (G : Good x0 x1)
    (b : Fin 4) (hb : b.val = t.val / 16) (h : Fin 4) (hh : h.val = y1.val % 256 / 64) (d : Fin 64) (hdv : d.val = y1.val % 64) (a a1 a2 : Fin 16) (ha : a.val = t.val % 16 - 0) (ha1 : a1.val = t.val % 16 - 1) (ha2 : a2.val = t.val % 16 - 2) :
    ((outsAt0 m c t.val t.isLt) (ix2 y0 y1) : EReal) = att x0 x1 b 0 h (pos a y0) d := by
  have ht := tlt t
  rw [outsAt0_C m c t (by omega) (by omega) h2]
  frame_open
  simp (disch := decide) only [↓ View.readCov_skip, ↓ View.readCov_cons_toLoadRect, ↓ View.readCov_fill]
  frame_out
  refine (assembled _ y0 y1).trans ?_
  refine (stacked _ _ _ _ _ _).trans ?_
  rw [dif_pos (show y1.val / 256 * 64 + y1.val % 64 < 64 by omega)]
  generalize hQ : k0_pay97 (F := Ideal) _ _ _ _ _ _ _ _ = Q
  generalize hS : k0_pay89 (F := Ideal) _ = Sl
  generalize hD : k0_pay113 _ _ = Dm
  generalize hU : k0_pay48 _ _ = Um
  generalize hK0 : View.ld (iblk m c 1 t) (Rect.unit (k0_off13 _) _ _) = K0
  generalize hV0 : View.ld (iblk m c 2 t) (Rect.unit (k0_off14 _) _ _) = V0
  generalize hK1 : View.ld (iblk m c 1 t) (Rect.unit (k0_off15 _ 1#32) _ _) = K1
  generalize hV1 : View.ld (iblk m c 2 t) (Rect.unit (k0_off16 _ 1#32) _ _) = V1
  generalize hK2 : View.ld (iblk m c 1 t) (Rect.unit (k0_off15 _ 2#32) _ _) = K2
  generalize hV2 : View.ld (iblk m c 2 t) (Rect.unit (k0_off16 _ 2#32) _ _) = V2
  generalize hA : BitVec.ofNat 32 (grid0.coords t 1).val = ai
  generalize hr : (⟨y1.val % 256 / 64 * 256 + y0.val, _⟩ : Fin 1024) = r
  generalize hd : (⟨_, _⟩ : Fin 64) = dd
  have hdd : dd = d := by
    rw [← hd]
    apply Fin.ext
    show _ = d.val
    show y1.val / 256 * 64 + y1.val % 64 = d.val
    omega
  have hrv : r.val = h.val * 256 + y0.val := by rw [← hr, hh]
  have hai : ai = BitVec.ofNat 32 a.val := by rw [← hA, tile t, ha]; rfl
  have hq : QRow (fun j => Q (ix3 0 r j)) (qr x0 b 0 h (pos a y0)) (sl 0 h) y0.val := by
    rw [← hQ]
    exact rows0 _ _ _ _ (fun h => qr x0 b 0 h (pos a y0)) y0
      (fun j => (queries m c t _ _ y0 j _ _ (show b.val * 4096 + (256 * a.val + y0.val) = _ by omega) (show 0 * 256 + 0 * 64 + j.val = 0 + j.val by omega)).trans ((congrFun hx0 _).trans (G.hq b 0 0 (pos a y0) j)))
      (fun j => (queries m c t _ _ y0 j _ _ (show b.val * 4096 + (256 * a.val + y0.val) = _ by omega) (show 0 * 256 + 1 * 64 + j.val = 64 + j.val by omega)).trans ((congrFun hx0 _).trans (G.hq b 0 1 (pos a y0) j)))
      (fun j => (queries m c t _ _ y0 j _ _ (show b.val * 4096 + (256 * a.val + y0.val) = _ by omega) (show 0 * 256 + 2 * 64 + j.val = 128 + j.val by omega)).trans ((congrFun hx0 _).trans (G.hq b 0 2 (pos a y0) j)))
      (fun j => (queries m c t _ _ y0 j _ _ (show b.val * 4096 + (256 * a.val + y0.val) = _ by omega) (show 0 * 256 + 3 * 64 + j.val = 192 + j.val by omega)).trans ((congrFun hx0 _).trans (G.hq b 0 3 (pos a y0) j)))
      h r hrv
  have hsl : (Sl (ix2 0 r) : EReal) = ((sl 0 h * lam : ℝ) : EReal) := by
    rw [← hS]
    refine (slope0 r).trans ?_
    rw [sl, show r.val / 256 + 1 = 4 * 0 + h.val + 1 by omega]
    rfl
  have hDm : ∀ x : Fin 256, Dm (ix2 x r) = if x.val ≤ y0.val then 1#1 else 0#1 := fun x => by
    rw [← hD]
    have e := diag x r
    rw [show r.val % 256 = y0.val by omega] at e
    exact e
  have hUm : ∀ x : Fin 256, Um (ix2 x r) = if y0.val < x.val then 1#1 else 0#1 := fun x => by
    rw [← hU]
    have e := upper x r
    rw [show r.val % 256 = y0.val by omega] at e
    exact e
  have hKv0 : ∀ x j, (K0 (ix4 0 0 x j) : EReal) = x1 (ix4 b 0 (pos a x) j) := fun x j => by
    rw [← hK0, ← hx1]
    exact keys m c t _ _ 0 a (by rw [ha]; exact keyAtC00 t h2) x j b hb
  have hVv0 : ∀ x, (V0 (ix2 x dd) : EReal) = va x0 b 0 d (pos a x) := fun x => by
    rw [← hV0, hdd]
    unfold va
    rw [← hx0]
    exact values m c t _ _ 0 a (by rw [ha]; exact valueAtC00 t h2) x d _ _ (show b.val * 4096 + (256 * a.val + x.val) = t.val / 16 * 4096 + (256 * a.val + x.val) by omega) (show 1152 + (0 * 64 + d.val) = 1152 + (0 * 64 + d.val) from rfl)
  have hKv1 : ∀ x j, (K1 (ix4 0 0 x j) : EReal) = x1 (ix4 b 0 (pos a1 x) j) := fun x j => by
    rw [← hK1, ← hx1]
    exact keys m c t _ _ 0 a1 (by rw [ha1]; exact keyAtC01 t h2) x j b hb
  have hVv1 : ∀ x, (V1 (ix2 x dd) : EReal) = va x0 b 0 d (pos a1 x) := fun x => by
    rw [← hV1, hdd]
    unfold va
    rw [← hx0]
    exact values m c t _ _ 0 a1 (by rw [ha1]; exact valueAtC01 t h2) x d _ _ (show b.val * 4096 + (256 * a1.val + x.val) = t.val / 16 * 4096 + (256 * a1.val + x.val) by omega) (show 1152 + (0 * 64 + d.val) = 1152 + (0 * 64 + d.val) from rfl)
  have hKv2 : ∀ x j, (K2 (ix4 0 0 x j) : EReal) = x1 (ix4 b 0 (pos a2 x) j) := fun x j => by
    rw [← hK2, ← hx1]
    exact keys m c t _ _ 0 a2 (by rw [ha2]; exact keyAtC02 t h2) x j b hb
  have hVv2 : ∀ x, (V2 (ix2 x dd) : EReal) = va x0 b 0 d (pos a2 x) := fun x => by
    rw [← hV2, hdd]
    unfold va
    rw [← hx0]
    exact values m c t _ _ 0 a2 (by rw [ha2]; exact valueAtC02 t h2) x d _ _ (show b.val * 4096 + (256 * a2.val + x.val) = t.val / 16 * 4096 + (256 * a2.val + x.val) by omega) (show 1152 + (0 * 64 + d.val) = 1152 + (0 * 64 + d.val) from rfl)
  generalize hR : att x0 x1 b 0 h (pos a y0) d = R
  clear hQ hS hD hU hK0 hV0 hK1 hV1 hK2 hV2 hA hr hd
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay90, k0_pay91, k0_pay92, k0_pay93, k0_pay94, k0_pay95, k0_pay96, k0_pay99, k0_pay100, k0_pay101, k0_pay102, k0_pay103, k0_pay104, k0_pay105, k0_pay106, k0_pay107, k0_pay109, k0_pay110, k0_pay111, k0_pay112, k0_pay114, k0_pay115, k0_pay116, k0_pay117, k0_pay118, k0_pay119, k0_pay120, k0_pay121, k0_pay122, k0_pay123, k0_pay124, k0_pay125]
  subst hai
  rw [← hR]
  have key := flash3 (fun x => Scalar.select (α := EReal) (Dm (ix2 x r)) (∑ j, @HMul.hMul EReal EReal EReal _ (K0 (ix4 0 0 x j)) (Q (ix3 0 r j))) (Named.named (F := Ideal) κ "mask" (φ := .f32) 0xF149F2CA#32)) (fun x => ∑ j, @HMul.hMul EReal EReal EReal _ (K1 (ix4 0 0 x j)) (Q (ix3 0 r j))) (fun x => Scalar.select (α := EReal) (Um (ix2 x r)) (∑ j, @HMul.hMul EReal EReal EReal _ (K2 (ix4 0 0 x j)) (Q (ix3 0 r j))) (Named.named (F := Ideal) κ "mask" (φ := .f32) 0xF149F2CA#32)) (fun x => V0 (ix2 x dd)) (fun x => V1 (ix2 x dd)) (fun x => V2 (ix2 x dd)) (Named.named (F := Ideal) κ "mask" (φ := .f32) 0xF149F2CA#32) _ _ _ _ mask_eq neg_inf (rho x0 x1 b 0 h (pos a y0)) (sees (pos a y0)) (va x0 b 0 d) a a1 a2 (fun e => by have := congrArg Fin.val e; omega) (fun e => by have := congrArg Fin.val e; omega) (fun e => by have := congrArg Fin.val e; omega)
    (fun i n0 n1 n2 x => seesNot a i (by have e0 : i.val ≠ a.val := fun e => n0 (Fin.ext e); have e1 : i.val ≠ a1.val := fun e => n1 (Fin.ext e); have e2 : i.val ≠ a2.val := fun e => n2 (Fin.ext e); omega) y0 x) ⟨y0, (seesDiag a y0 y0).2 le_rfl⟩
    (lam * sl 0 h * (256 * a.val - 256 * a.val)) (shift (sl 0 h) a a _ hsl _ ((int0 a).trans (by omega))) (fun x => kept _ _ _ (hDm x) (seesDiag a y0 x) _ _ _ (tileS x0 x1 G b 0 h a a y0 _ hq (fun x j => K0 (ix4 0 0 x j)) hKv0 x) mask_eq) hVv0
    (lam * sl 0 h * (256 * a1.val - 256 * a.val)) (shift (sl 0 h) a a1 _ hsl _ ((int1 a).trans (by omega))) (fun x => (tileS x0 x1 G b 0 h a a1 y0 _ hq (fun x j => K1 (ix4 0 0 x j)) hKv1 x).trans (if_pos (seesPrev a a1 (by omega) y0 x)).symm) hVv1
    (lam * sl 0 h * (256 * a2.val - 256 * a.val)) (shift (sl 0 h) a a2 _ hsl _ ((int2 a).trans (by omega))) (fun x => kept _ _ _ (hUm x) (seesFar a a2 (by omega) y0 x) _ _ _ (tileS x0 x1 G b 0 h a a2 y0 _ hq (fun x j => K2 (ix4 0 0 x j)) hKv2 x) mask_eq) hVv2
  exact key

end Cert.Proof.WinV

end
-- ==== Proof.WinC1.lean ====
module

public import proofs.«01_k».proof.Proof.WinAsm
public import proofs.«01_k».proof.Proof.WinBlk
public import proofs.«01_k».proof.Proof.WinRow

@[expose] public section

set_option maxRecDepth 16384
set_option maxHeartbeats 2000000

noncomputable section

namespace Cert.Proof.WinV

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

theorem keyAtC10 : ∀ t : Fin cfg0.N, 2 ≤ t.val % 16 → k0_off17 (grid0.coords t) = ![0, 1, 256 * (t.val % 16 - 0), 0] := (by decide +kernel : ∀ t : Fin grid0.N, _)
theorem valueAtC10 : ∀ t : Fin cfg0.N, 2 ≤ t.val % 16 → k0_off18 (grid0.coords t) = ![256 * (t.val % 16 - 0), 64] := (by decide +kernel : ∀ t : Fin grid0.N, _)
theorem keyAtC11 : ∀ t : Fin cfg0.N, 2 ≤ t.val % 16 → k0_off19 (grid0.coords t) 1#32 = ![0, 1, 256 * (t.val % 16 - 1), 0] := (by decide +kernel : ∀ t : Fin grid0.N, _)
theorem valueAtC11 : ∀ t : Fin cfg0.N, 2 ≤ t.val % 16 → k0_off20 (grid0.coords t) 1#32 = ![256 * (t.val % 16 - 1), 64] := (by decide +kernel : ∀ t : Fin grid0.N, _)
theorem keyAtC12 : ∀ t : Fin cfg0.N, 2 ≤ t.val % 16 → k0_off19 (grid0.coords t) 2#32 = ![0, 1, 256 * (t.val % 16 - 2), 0] := (by decide +kernel : ∀ t : Fin grid0.N, _)
theorem valueAtC12 : ∀ t : Fin cfg0.N, 2 ≤ t.val % 16 → k0_off20 (grid0.coords t) 2#32 = ![256 * (t.val % 16 - 2), 64] := (by decide +kernel : ∀ t : Fin grid0.N, _)

/-- A later query tile of a batch, heads of group 1. -/
theorem pointC1 (c : Dev nD) (t : Fin cfg0.N) (h2 : 2 ≤ t.val % 16) (y0 : Fin 256) (y1 : Fin 512) (hy : y1.val / 256 = 1)
    (x0 : FVec Ideal S16384x1280 .f32) (x1 : FVec Ideal S4x2x4096x128 .bf16) (hx0 : m ((c : Thread nD τ).loc main_arg0) = x0) (hx1 : m ((c : Thread nD τ).loc main_arg1) = x1) (G : Good x0 x1)
    (b : Fin 4) (hb : b.val = t.val / 16) (h : Fin 4) (hh : h.val = y1.val % 256 / 64) (d : Fin 64) (hdv : d.val = y1.val % 64) (a a1 a2 : Fin 16) (ha : a.val = t.val % 16 - 0) (ha1 : a1.val = t.val % 16 - 1) (ha2 : a2.val = t.val % 16 - 2) :
    ((outsAt0 m c t.val t.isLt) (ix2 y0 y1) : EReal) = att x0 x1 b 1 h (pos a y0) d := by
  have ht := tlt t
  rw [outsAt0_C m c t (by omega) (by omega) h2]
  frame_open
  simp (disch := decide) only [↓ View.readCov_skip, ↓ View.readCov_cons_toLoadRect, ↓ View.readCov_fill]
  frame_out
  refine (assembled _ y0 y1).trans ?_
  refine (stacked _ _ _ _ _ _).trans ?_
  rw [dif_neg (show ¬ y1.val / 256 * 64 + y1.val % 64 < 64 by omega)]
  generalize hQ : k0_pay108 (F := Ideal) _ _ _ _ _ _ _ _ _ = Q
  generalize hS : k0_pay98 (F := Ideal) _ = Sl
  generalize hD : k0_pay113 _ _ = Dm
  generalize hU : k0_pay48 _ _ = Um
  generalize hK0 : View.ld (iblk m c 1 t) (Rect.unit (k0_off17 _) _ _) = K0
  generalize hV0 : View.ld (iblk m c 2 t) (Rect.unit (k0_off18 _) _ _) = V0
  generalize hK1 : View.ld (iblk m c 1 t) (Rect.unit (k0_off19 _ 1#32) _ _) = K1
  generalize hV1 : View.ld (iblk m c 2 t) (Rect.unit (k0_off20 _ 1#32) _ _) = V1
  generalize hK2 : View.ld (iblk m c 1 t) (Rect.unit (k0_off19 _ 2#32) _ _) = K2
  generalize hV2 : View.ld (iblk m c 2 t) (Rect.unit (k0_off20 _ 2#32) _ _) = V2
  generalize hA : BitVec.ofNat 32 (grid0.coords t 1).val = ai
  generalize hr : (⟨y1.val % 256 / 64 * 256 + y0.val, _⟩ : Fin 1024) = r
  generalize hd : (⟨_, _⟩ : Fin 64) = dd
  have hdd : dd = d := by
    rw [← hd]
    apply Fin.ext
    show _ = d.val
    show y1.val / 256 * 64 + y1.val % 64 - 64 = d.val
    omega
  have hrv : r.val = h.val * 256 + y0.val := by rw [← hr, hh]
  have hai : ai = BitVec.ofNat 32 a.val := by rw [← hA, tile t, ha]; rfl
  have hq : QRow (fun j => Q (ix3 0 r j)) (qr x0 b 1 h (pos a y0)) (sl 1 h) y0.val := by
    rw [← hQ]
    exact rows1 _ _ _ _ (fun h => qr x0 b 1 h (pos a y0)) y0
      (fun j => (queries m c t _ _ y0 j _ _ (show b.val * 4096 + (256 * a.val + y0.val) = _ by omega) (show 1 * 256 + 0 * 64 + j.val = 256 + j.val by omega)).trans ((congrFun hx0 _).trans (G.hq b 1 0 (pos a y0) j)))
      (fun j => (queries m c t _ _ y0 j _ _ (show b.val * 4096 + (256 * a.val + y0.val) = _ by omega) (show 1 * 256 + 1 * 64 + j.val = 320 + j.val by omega)).trans ((congrFun hx0 _).trans (G.hq b 1 1 (pos a y0) j)))
      (fun j => (queries m c t _ _ y0 j _ _ (show b.val * 4096 + (256 * a.val + y0.val) = _ by omega) (show 1 * 256 + 2 * 64 + j.val = 384 + j.val by omega)).trans ((congrFun hx0 _).trans (G.hq b 1 2 (pos a y0) j)))
      (fun j => (queries m c t _ _ y0 j _ _ (show b.val * 4096 + (256 * a.val + y0.val) = _ by omega) (show 1 * 256 + 3 * 64 + j.val = 448 + j.val by omega)).trans ((congrFun hx0 _).trans (G.hq b 1 3 (pos a y0) j)))
      h r hrv
  have hsl : (Sl (ix2 0 r) : EReal) = ((sl 1 h * lam : ℝ) : EReal) := by
    rw [← hS]
    refine (slope1 r).trans ?_
    rw [sl, show r.val / 256 + 5 = 4 * 1 + h.val + 1 by omega]
    rfl
  have hDm : ∀ x : Fin 256, Dm (ix2 x r) = if x.val ≤ y0.val then 1#1 else 0#1 := fun x => by
    rw [← hD]
    have e := diag x r
    rw [show r.val % 256 = y0.val by omega] at e
    exact e
  have hUm : ∀ x : Fin 256, Um (ix2 x r) = if y0.val < x.val then 1#1 else 0#1 := fun x => by
    rw [← hU]
    have e := upper x r
    rw [show r.val % 256 = y0.val by omega] at e
    exact e
  have hKv0 : ∀ x j, (K0 (ix4 0 0 x j) : EReal) = x1 (ix4 b 1 (pos a x) j) := fun x j => by
    rw [← hK0, ← hx1]
    exact keys m c t _ _ 1 a (by rw [ha]; exact keyAtC10 t h2) x j b hb
  have hVv0 : ∀ x, (V0 (ix2 x dd) : EReal) = va x0 b 1 d (pos a x) := fun x => by
    rw [← hV0, hdd]
    unfold va
    rw [← hx0]
    exact values m c t _ _ 1 a (by rw [ha]; exact valueAtC10 t h2) x d _ _ (show b.val * 4096 + (256 * a.val + x.val) = t.val / 16 * 4096 + (256 * a.val + x.val) by omega) (show 1152 + (1 * 64 + d.val) = 1152 + (1 * 64 + d.val) from rfl)
  have hKv1 : ∀ x j, (K1 (ix4 0 0 x j) : EReal) = x1 (ix4 b 1 (pos a1 x) j) := fun x j => by
    rw [← hK1, ← hx1]
    exact keys m c t _ _ 1 a1 (by rw [ha1]; exact keyAtC11 t h2) x j b hb
  have hVv1 : ∀ x, (V1 (ix2 x dd) : EReal) = va x0 b 1 d (pos a1 x) := fun x => by
    rw [← hV1, hdd]
    unfold va
    rw [← hx0]
    exact values m c t _ _ 1 a1 (by rw [ha1]; exact valueAtC11 t h2) x d _ _ (show b.val * 4096 + (256 * a1.val + x.val) = t.val / 16 * 4096 + (256 * a1.val + x.val) by omega) (show 1152 + (1 * 64 + d.val) = 1152 + (1 * 64 + d.val) from rfl)
  have hKv2 : ∀ x j, (K2 (ix4 0 0 x j) : EReal) = x1 (ix4 b 1 (pos a2 x) j) := fun x j => by
    rw [← hK2, ← hx1]
    exact keys m c t _ _ 1 a2 (by rw [ha2]; exact keyAtC12 t h2) x j b hb
  have hVv2 : ∀ x, (V2 (ix2 x dd) : EReal) = va x0 b 1 d (pos a2 x) := fun x => by
    rw [← hV2, hdd]
    unfold va
    rw [← hx0]
    exact values m c t _ _ 1 a2 (by rw [ha2]; exact valueAtC12 t h2) x d _ _ (show b.val * 4096 + (256 * a2.val + x.val) = t.val / 16 * 4096 + (256 * a2.val + x.val) by omega) (show 1152 + (1 * 64 + d.val) = 1152 + (1 * 64 + d.val) from rfl)
  generalize hR : att x0 x1 b 1 h (pos a y0) d = R
  clear hQ hS hD hU hK0 hV0 hK1 hV1 hK2 hV2 hA hr hd
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay90, k0_pay91, k0_pay92, k0_pay93, k0_pay94, k0_pay95, k0_pay96, k0_pay99, k0_pay100, k0_pay101, k0_pay102, k0_pay103, k0_pay104, k0_pay105, k0_pay106, k0_pay107, k0_pay109, k0_pay110, k0_pay111, k0_pay112, k0_pay114, k0_pay115, k0_pay116, k0_pay117, k0_pay118, k0_pay119, k0_pay120, k0_pay121, k0_pay122, k0_pay123, k0_pay124, k0_pay125]
  subst hai
  rw [← hR]
  have key := flash3 (fun x => Scalar.select (α := EReal) (Dm (ix2 x r)) (∑ j, @HMul.hMul EReal EReal EReal _ (K0 (ix4 0 0 x j)) (Q (ix3 0 r j))) (Named.named (F := Ideal) κ "mask" (φ := .f32) 0xF149F2CA#32)) (fun x => ∑ j, @HMul.hMul EReal EReal EReal _ (K1 (ix4 0 0 x j)) (Q (ix3 0 r j))) (fun x => Scalar.select (α := EReal) (Um (ix2 x r)) (∑ j, @HMul.hMul EReal EReal EReal _ (K2 (ix4 0 0 x j)) (Q (ix3 0 r j))) (Named.named (F := Ideal) κ "mask" (φ := .f32) 0xF149F2CA#32)) (fun x => V0 (ix2 x dd)) (fun x => V1 (ix2 x dd)) (fun x => V2 (ix2 x dd)) (Named.named (F := Ideal) κ "mask" (φ := .f32) 0xF149F2CA#32) _ _ _ _ mask_eq neg_inf (rho x0 x1 b 1 h (pos a y0)) (sees (pos a y0)) (va x0 b 1 d) a a1 a2 (fun e => by have := congrArg Fin.val e; omega) (fun e => by have := congrArg Fin.val e; omega) (fun e => by have := congrArg Fin.val e; omega)
    (fun i n0 n1 n2 x => seesNot a i (by have e0 : i.val ≠ a.val := fun e => n0 (Fin.ext e); have e1 : i.val ≠ a1.val := fun e => n1 (Fin.ext e); have e2 : i.val ≠ a2.val := fun e => n2 (Fin.ext e); omega) y0 x) ⟨y0, (seesDiag a y0 y0).2 le_rfl⟩
    (lam * sl 1 h * (256 * a.val - 256 * a.val)) (shift (sl 1 h) a a _ hsl _ ((int0 a).trans (by omega))) (fun x => kept _ _ _ (hDm x) (seesDiag a y0 x) _ _ _ (tileS x0 x1 G b 1 h a a y0 _ hq (fun x j => K0 (ix4 0 0 x j)) hKv0 x) mask_eq) hVv0
    (lam * sl 1 h * (256 * a1.val - 256 * a.val)) (shift (sl 1 h) a a1 _ hsl _ ((int1 a).trans (by omega))) (fun x => (tileS x0 x1 G b 1 h a a1 y0 _ hq (fun x j => K1 (ix4 0 0 x j)) hKv1 x).trans (if_pos (seesPrev a a1 (by omega) y0 x)).symm) hVv1
    (lam * sl 1 h * (256 * a2.val - 256 * a.val)) (shift (sl 1 h) a a2 _ hsl _ ((int2 a).trans (by omega))) (fun x => kept _ _ _ (hUm x) (seesFar a a2 (by omega) y0 x) _ _ _ (tileS x0 x1 G b 1 h a a2 y0 _ hq (fun x j => K2 (ix4 0 0 x j)) hKv2 x) mask_eq) hVv2
  exact key

end Cert.Proof.WinV

end
-- ==== Proof.WinValue.lean ====
module

public import proofs.«01_k».proof.Proof.WinA0
public import proofs.«01_k».proof.Proof.WinA1
public import proofs.«01_k».proof.Proof.WinB0
public import proofs.«01_k».proof.Proof.WinB1
public import proofs.«01_k».proof.Proof.WinC0
public import proofs.«01_k».proof.Proof.WinC1
public import proofs.«01_k».proof.Proof.WinTop
public import proofs.«01_k».proof.Proof.WinPre

@[expose] public section

set_option maxRecDepth 16384
set_option maxHeartbeats 1000000

noncomputable section

namespace Cert.Proof.WinV

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

/-- What a point leaves in the output's block: the layer's windowed attention. -/
theorem point (c : Dev nD) (t : Fin cfg0.N) (y0 : Fin 256) (y1 : Fin 512)
    (x0 : FVec Ideal S16384x1280 .f32) (x1 : FVec Ideal S4x2x4096x128 .bf16) (hx0 : m ((c : Thread nD τ).loc main_arg0) = x0) (hx1 : m ((c : Thread nD τ).loc main_arg1) = x1) (G : Good x0 x1)
    (i : Fin 16384) (j : Fin 512) (hi : i.val = t.val * 256 + y0.val) (hj : j.val = y1.val) :
    ((outsAt0 m c t.val t.isLt) (ix2 y0 y1) : EReal) = Cert.WinRefIdeal.Read.val_main_v52 (F := Ideal) x0 x1 (ix2 i j) := by
  have ht := tlt t
  have hy1 := y1.isLt
  refine Eq.trans (b := att x0 x1 ⟨t.val / 16, by omega⟩ ⟨y1.val / 256, by omega⟩ ⟨y1.val % 256 / 64, by omega⟩ (pos ⟨t.val % 16, by omega⟩ y0) ⟨y1.val % 64, by omega⟩) ?_
    (top_ref x0 x1 G _ _ _ _ _ i j (by rw [hi]; show _ = t.val / 16 * 4096 + (256 * (t.val % 16) + y0.val); omega) (by rw [hj]; show _ = y1.val / 256 * 256 + y1.val % 256 / 64 * 64 + y1.val % 64; omega)).symm
  rcases (by omega : t.val % 16 = 0 ∨ t.val % 16 = 1 ∨ 2 ≤ t.val % 16) with h | h | h
  · rcases (by omega : y1.val / 256 = 0 ∨ y1.val / 256 = 1) with hy | hy
    · rw [show (⟨y1.val / 256, by omega⟩ : Fin 2) = 0 from Fin.ext hy]
      exact pointA0 m c t h y0 y1 hy x0 x1 hx0 hx1 G _ rfl _ rfl _ rfl _ rfl
    · rw [show (⟨y1.val / 256, by omega⟩ : Fin 2) = 1 from Fin.ext hy]
      exact pointA1 m c t h y0 y1 hy x0 x1 hx0 hx1 G _ rfl _ rfl _ rfl _ rfl
  · rcases (by omega : y1.val / 256 = 0 ∨ y1.val / 256 = 1) with hy | hy
    · rw [show (⟨y1.val / 256, by omega⟩ : Fin 2) = 0 from Fin.ext hy]
      exact pointB0 m c t h y0 y1 hy x0 x1 hx0 hx1 G _ rfl _ rfl _ rfl _ ⟨t.val % 16 - 1, by omega⟩ rfl rfl
    · rw [show (⟨y1.val / 256, by omega⟩ : Fin 2) = 1 from Fin.ext hy]
      exact pointB1 m c t h y0 y1 hy x0 x1 hx0 hx1 G _ rfl _ rfl _ rfl _ ⟨t.val % 16 - 1, by omega⟩ rfl rfl
  · rcases (by omega : y1.val / 256 = 0 ∨ y1.val / 256 = 1) with hy | hy
    · rw [show (⟨y1.val / 256, by omega⟩ : Fin 2) = 0 from Fin.ext hy]
      exact pointC0 m c t h y0 y1 hy x0 x1 hx0 hx1 G _ rfl _ rfl _ rfl _ ⟨t.val % 16 - 1, by omega⟩ ⟨t.val % 16 - 2, by omega⟩ rfl rfl rfl
    · rw [show (⟨y1.val / 256, by omega⟩ : Fin 2) = 1 from Fin.ext hy]
      exact pointC1 m c t h y0 y1 hy x0 x1 hx0 hx1 G _ rfl _ rfl _ rfl _ ⟨t.val % 16 - 1, by omega⟩ ⟨t.val % 16 - 2, by omega⟩ rfl rfl rfl

/-- The kernel's output is the layer's windowed attention. -/
theorem final3 (c : Dev nD) (G : Good (m ((c : Thread nD τ).loc main_arg0)) (m ((c : Thread nD τ).loc main_arg1))) :
    (dats m 0 c).arrAt 3 (cfgs 0).N = Cert.WinRefIdeal.Read.val_main_v52 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  obtain ⟨y0, y1, rfl⟩ : ∃ (a : Fin 256) (b : Fin 512), y = ix2 a b := ⟨y 0, y 1, eq_ix2 (n0 := 256) (n1 := 512) y⟩
  obtain ⟨-, -, -, w3⟩ := windows t
  refine (point m c t y0 y1 _ _ rfl rfl G _ _ ?_ ?_).trans (congrArg (Cert.WinRefIdeal.Read.val_main_v52 (F := Ideal) (m ((c : Thread nD τ).loc main_arg0)) (m ((c : Thread nD τ).loc main_arg1))) (eq_ix2 _).symm)
  · blk_simp [w3]
  · blk_simp [w3]

end Cert.Proof.WinV

end
-- ==== Proof.lean ====
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.ProjValue
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalIdeal.Value
public import proofs.«01_k».proof.Proof.Gen.FinalRefIdeal.Run
public import proofs.«01_k».proof.Proof.Gen.FinalRefIdeal.Read
public import proofs.«01_k».proof.Proof.FinalValue
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Run
public import proofs.«01_k».proof.Proof.Gen.MixRefIdeal.Read
public import proofs.«01_k».proof.Proof.MixBlocks
public import proofs.«01_k».proof.Proof.MixLemmas
public import proofs.«01_k».proof.Proof.MixValue
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.WinIdeal.Value
public import proofs.«01_k».proof.Proof.Gen.WinRefIdeal.Run
public import proofs.«01_k».proof.Proof.Gen.WinRefIdeal.Read
public import proofs.«01_k».proof.Proof.WinMath
public import proofs.«01_k».proof.Proof.WinQ
public import proofs.«01_k».proof.Proof.WinDef
public import proofs.«01_k».proof.Proof.WinScore
public import proofs.«01_k».proof.Proof.WinTop
public import proofs.«01_k».proof.Proof.WinPre
public import proofs.«01_k».proof.Proof.WinAsm
public import proofs.«01_k».proof.Proof.WinBlk
public import proofs.«01_k».proof.Proof.WinRow
public import proofs.«01_k».proof.Proof.WinA0
public import proofs.«01_k».proof.Proof.WinA1
public import proofs.«01_k».proof.Proof.WinB0
public import proofs.«01_k».proof.Proof.WinB1
public import proofs.«01_k».proof.Proof.WinC0
public import proofs.«01_k».proof.Proof.WinC1
public import proofs.«01_k».proof.Proof.WinValue
public import proofs.«01_k».proof.Proof.Gen.Pre_win_keys
public import Idealize.ShloMosaic.Adequacy
public import Idealize.ShloMosaic.Init

@[expose] public section

noncomputable section

namespace Cert.Proof

open Idealize.ShloMosaic Idealize.SL.Sem

theorem proj_algebraic : algebraic_ProjIdeal_ProjRefIdeal (hProjIdeal := Cert.ProjIdeal.Gen.facts) (hProjRefIdeal := Cert.ProjRefIdeal.Gen.facts) :=
  fun m ρ m' ρ' _ hag =>
    ⟨_, _, _, _, Cert.ProjIdeal.Value.run_blocks m ρ,
      (θ_run _ _ _).mono (fun _ h c => by
        obtain ⟨h0, h1, h2, h3, hk⟩ := h c
        obtain ⟨a0, a1, a2⟩ := hag c
        rw [a0, a1, a2] at h0 h1 h2 h3
        exact ⟨h0.trans (ProjV.final3 m c).symm, h1.trans (ProjV.final4 m c).symm, h2.trans (ProjV.final5 m c).symm,
          h3.trans (ProjV.final6 m c).symm, hk⟩) (Cert.ProjRefIdeal.Value.run m' ρ')⟩

theorem proj_ref_frame : quiescent_ProjRefIdeal (hProjRefIdeal := Cert.ProjRefIdeal.Gen.facts) :=
  fun m ρ _ => (θ_run Cert.ProjRefIdeal.defs _ _).mono (fun r h => ⟨fun c => (h c).2.2.2.2, Idealize.ShloMosaic.sem_eq_zero_of_no_sems (by decide) r.2⟩)
    (Cert.ProjRefIdeal.Value.run m ρ)

theorem final_algebraic : algebraic_FinalIdeal_FinalRefIdeal (hFinalIdeal := Cert.FinalIdeal.Gen.facts) (hFinalRefIdeal := Cert.FinalRefIdeal.Gen.facts) :=
  fun m ρ m' ρ' _ hag =>
    ⟨_, Cert.FinalIdeal.Value.run_blocks m ρ,
      (θ_run _ _ _).mono (fun _ h c => by
        obtain ⟨h0, hk⟩ := h c
        obtain ⟨a0, a1, a2⟩ := hag c
        rw [a0, a1, a2] at h0
        exact ⟨h0.trans (FinalV.final3 m c).symm, hk⟩) (Cert.FinalRefIdeal.Value.run m' ρ')⟩

theorem final_ref_frame : quiescent_FinalRefIdeal (hFinalRefIdeal := Cert.FinalRefIdeal.Gen.facts) :=
  fun m ρ _ => (θ_run Cert.FinalRefIdeal.defs _ _).mono (fun r h => ⟨fun c => (h c).2, Idealize.ShloMosaic.sem_eq_zero_of_no_sems (by decide) r.2⟩)
    (Cert.FinalRefIdeal.Value.run m ρ)

theorem mix_algebraic : algebraic_MixIdeal_MixRefIdeal (hMixIdeal := Cert.MixIdeal.Gen.facts) (hMixRefIdeal := Cert.MixRefIdeal.Gen.facts) :=
  fun m ρ m' ρ' _ hag =>
    ⟨_, Cert.MixIdeal.Value.run_blocks m ρ,
      (θ_run _ _ _).mono (fun _ h c => by
        obtain ⟨h0, hk⟩ := h c
        obtain ⟨a0, a1, a2, a3, a4, a5, a6, a7, a8, a9, a10, a11, a12, a13⟩ := hag c
        refine ⟨((h0.trans (Cert.MixRefIdeal.Read.val_main_v306_eq _)).trans ?_).trans (MixV.final16 m c).symm, ?_⟩
        · show Cert.MixRefIdeal.Read.val_main_v306 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9)) (m' ((c.tc : Thread Cert.MixRefIdeal.nD Cert.MixRefIdeal.τ).loc Cert.MixRefIdeal.main_arg10)) (m' ((c.tc : Thread Cert.MixRefIdeal.nD Cert.MixRefIdeal.τ).loc Cert.MixRefIdeal.main_arg11)) (m' ((c.tc : Thread Cert.MixRefIdeal.nD Cert.MixRefIdeal.τ).loc Cert.MixRefIdeal.main_arg12)) (m' ((c.tc : Thread Cert.MixRefIdeal.nD Cert.MixRefIdeal.τ).loc Cert.MixRefIdeal.main_arg13)) = _
          rw [a0, a1, a2, a3, a4, a5, a6, a7, a8, a9, a10, a11, a12, a13]
        · exact hk) (Cert.MixRefIdeal.Value.run m' ρ')⟩

theorem mix_ref_frame : quiescent_MixRefIdeal (hMixRefIdeal := Cert.MixRefIdeal.Gen.facts) :=
  fun m ρ _ => (θ_run Cert.MixRefIdeal.defs _ _).mono (fun r h => ⟨fun c => (h c).2, Idealize.ShloMosaic.sem_eq_zero_of_no_sems (by decide) r.2⟩)
    (Cert.MixRefIdeal.Value.run m ρ)

theorem win_algebraic : algebraic_WinIdeal_WinRefIdeal_pre_win_keys (hWinIdeal := Cert.WinIdeal.Gen.facts) (hWinRefIdeal := Cert.WinRefIdeal.Gen.facts) (hPre_win_keys := Cert.Pre_win_keys.Gen.facts) :=
  fun m ρ m' ρ' hpre hag =>
    ⟨_, Cert.WinIdeal.Value.run_blocks m ρ,
      (θ_run _ _ _).mono (fun _ h c => by
        obtain ⟨h0, hk⟩ := h c
        obtain ⟨a0, a1⟩ := hag c
        refine ⟨((h0.trans (Cert.WinRefIdeal.Read.val_main_v52_eq _ _)).trans ?_).trans (WinV.final3 m c (WinV.good _ _ (hpre c))).symm, ?_⟩
        · show Cert.WinRefIdeal.Read.val_main_v52 (F := Ideal) (m' ((c.tc : Thread Cert.WinRefIdeal.nD Cert.WinRefIdeal.τ).loc Cert.WinRefIdeal.main_arg0)) (m' ((c.tc : Thread Cert.WinRefIdeal.nD Cert.WinRefIdeal.τ).loc Cert.WinRefIdeal.main_arg1)) = _
          rw [a0, a1]
        · exact hk) (Cert.WinRefIdeal.Value.run m' ρ')⟩

theorem win_ref_frame : quiescent_WinRefIdeal (hWinRefIdeal := Cert.WinRefIdeal.Gen.facts) :=
  fun m ρ _ => (θ_run Cert.WinRefIdeal.defs _ _).mono (fun r h => ⟨fun c => (h c).2, Idealize.ShloMosaic.sem_eq_zero_of_no_sems (by decide) r.2⟩)
    (Cert.WinRefIdeal.Value.run m ρ)

theorem win_ref_frame_pre : quiescent_WinRefIdeal_pre_win_keys (hWinRefIdeal := Cert.WinRefIdeal.Gen.facts) (hPre_win_keys := Cert.Pre_win_keys.Gen.facts) :=
  fun m ρ _ => (θ_run Cert.WinRefIdeal.defs _ _).mono (fun r h => ⟨fun c => (h c).2, Idealize.ShloMosaic.sem_eq_zero_of_no_sems (by decide) r.2⟩)
    (Cert.WinRefIdeal.Value.run m ρ)

theorem win_preserves : preserves_Win_WinIdeal :=
  ⟨IdealRules.named_const.statement Cert.WinIdeal.κ "slope4" .f32 0x3DB8AA3B#32 (((1 / 16) * (Real.log 2)⁻¹ : ℝ) : EReal) rfl,
   IdealRules.named_const.statement Cert.WinIdeal.κ "slope3" .f32 0x3E38AA3B#32 (((1 / 8) * (Real.log 2)⁻¹ : ℝ) : EReal) rfl,
   IdealRules.named_const.statement Cert.WinIdeal.κ "slope2" .f32 0x3EB8AA3B#32 (((1 / 4) * (Real.log 2)⁻¹ : ℝ) : EReal) rfl,
   IdealRules.named_const.statement Cert.WinIdeal.κ "slope1" .f32 0x3F38AA3B#32 (((1 / 2) * (Real.log 2)⁻¹ : ℝ) : EReal) rfl,
   IdealRules.named_const.statement Cert.WinIdeal.κ "minus1" .f32 0xBF38AA3B#32 ((-((1 / 2) * (Real.log 2)⁻¹) : ℝ) : EReal) rfl,
   IdealRules.named_const.statement Cert.WinIdeal.κ "minus2" .f32 0xBEB8AA3B#32 ((-((1 / 4) * (Real.log 2)⁻¹) : ℝ) : EReal) rfl,
   IdealRules.named_const.statement Cert.WinIdeal.κ "minus3" .f32 0xBE38AA3B#32 ((-((1 / 8) * (Real.log 2)⁻¹) : ℝ) : EReal) rfl,
   IdealRules.named_const.statement Cert.WinIdeal.κ "minus4" .f32 0xBDB8AA3B#32 ((-((1 / 16) * (Real.log 2)⁻¹) : ℝ) : EReal) rfl,
   IdealRules.named_const.statement Cert.WinIdeal.κ "slope8" .f32 0x3BB8AA3B#32 (((1 / 256) * (Real.log 2)⁻¹ : ℝ) : EReal) rfl,
   IdealRules.named_const.statement Cert.WinIdeal.κ "slope7" .f32 0x3C38AA3B#32 (((1 / 128) * (Real.log 2)⁻¹ : ℝ) : EReal) rfl,
   IdealRules.named_const.statement Cert.WinIdeal.κ "slope6" .f32 0x3CB8AA3B#32 (((1 / 64) * (Real.log 2)⁻¹ : ℝ) : EReal) rfl,
   IdealRules.named_const.statement Cert.WinIdeal.κ "slope5" .f32 0x3D38AA3B#32 (((1 / 32) * (Real.log 2)⁻¹ : ℝ) : EReal) rfl,
   IdealRules.named_const.statement Cert.WinIdeal.κ "minus5" .f32 0xBD38AA3B#32 ((-((1 / 32) * (Real.log 2)⁻¹) : ℝ) : EReal) rfl,
   IdealRules.named_const.statement Cert.WinIdeal.κ "minus6" .f32 0xBCB8AA3B#32 ((-((1 / 64) * (Real.log 2)⁻¹) : ℝ) : EReal) rfl,
   IdealRules.named_const.statement Cert.WinIdeal.κ "minus7" .f32 0xBC38AA3B#32 ((-((1 / 128) * (Real.log 2)⁻¹) : ℝ) : EReal) rfl,
   IdealRules.named_const.statement Cert.WinIdeal.κ "minus8" .f32 0xBBB8AA3B#32 ((-((1 / 256) * (Real.log 2)⁻¹) : ℝ) : EReal) rfl,
   IdealRules.named_const.statement Cert.WinIdeal.κ "mask" .f32 0xF149F2CA#32 ⊥ rfl⟩

theorem claim : Cert.Claim := ⟨Cert.Proj.Gen.facts,
  Cert.ProjIdeal.Gen.facts,
  Cert.ProjRefIdeal.Gen.facts,
  Cert.Final.Gen.facts,
  Cert.FinalIdeal.Gen.facts,
  Cert.FinalRefIdeal.Gen.facts,
  Cert.Mix.Gen.facts,
  Cert.MixIdeal.Gen.facts,
  Cert.MixRefIdeal.Gen.facts,
  Cert.Win.Gen.facts,
  Cert.WinIdeal.Gen.facts,
  Cert.WinRefIdeal.Gen.facts,
  Cert.Pre_win_keys.Gen.facts,
  fun m ρ _ => Cert.Proj.Gen.frame m ρ,
  fun m ρ _ => Cert.ProjIdeal.Gen.frame m ρ,
  proj_ref_frame,
  fun m ρ _ => Cert.Final.Gen.frame m ρ,
  fun m ρ _ => Cert.FinalIdeal.Gen.frame m ρ,
  final_ref_frame,
  fun m ρ _ => Cert.Mix.Gen.frame m ρ,
  fun m ρ _ => Cert.MixIdeal.Gen.frame m ρ,
  mix_ref_frame,
  fun m ρ _ => Cert.Win.Gen.frame m ρ,
  fun m ρ _ => Cert.WinIdeal.Gen.frame m ρ,
  fun m ρ _ => Cert.WinIdeal.Gen.frame m ρ,
  win_ref_frame,
  win_ref_frame_pre,
  trivial,
  proj_algebraic,
  trivial,
  final_algebraic,
  trivial,
  mix_algebraic,
  win_preserves,
  win_algebraic⟩

end Cert.Proof

end
